-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x2048 : Shape := ⟨2, ![1024, 2048]⟩
abbrev S4096x512 : Shape := ⟨2, ![4096, 512]⟩
abbrev S4x256x2048 : Shape := ⟨3, ![4, 256, 2048]⟩
abbrev S3x4x256x512 : Shape := ⟨4, ![3, 4, 256, 512]⟩
abbrev S4x256x512 : Shape := ⟨3, ![4, 256, 512]⟩
abbrev S4 : Shape := ⟨1, ![4]⟩
abbrev S3x4 : Shape := ⟨2, ![3, 4]⟩
abbrev S_ : Shape := ⟨0, ![]⟩
abbrev S1 : Shape := ⟨1, ![1]⟩
abbrev S1x256x2048 : Shape := ⟨3, ![1, 256, 2048]⟩
abbrev S256x2048 : Shape := ⟨2, ![256, 2048]⟩
abbrev S1x256x512 : Shape := ⟨3, ![1, 256, 512]⟩
abbrev S256x512 : Shape := ⟨2, ![256, 512]⟩
abbrev S1x1x256x512 : Shape := ⟨4, ![1, 1, 256, 512]⟩
abbrev S1x1 : Shape := ⟨2, ![1, 1]⟩

abbrev nBuf : Space → Nat
  | .hbm => 2
  | .vmem => 3
  | .smem => 0
  | _ => 0

abbrev bufTy : (tb : Table) → Fin (tcTables nBuf tb) → BufTy
  | .hbm, ⟨0, _⟩ => ⟨S1024x2048, .f32⟩
  | .hbm, ⟨1, _⟩ => ⟨S4096x512, .bf16⟩
  | .local _ .vmem, ⟨0, _⟩ => ⟨S4x256x2048, .f32⟩
  | .local _ .vmem, ⟨1, _⟩ => ⟨S3x4x256x512, .bf16⟩
  | .local _ .vmem, ⟨2, _⟩ => ⟨S4x256x512, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c2_i32_55 : BitVec 32) : Fin 3 → Nat :=
  let c0 : Index := 0#32
  let c0_63 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v68 : BitVec 32 := Scalar.addi v2 c2_i32_55
  let c4_i32_56 : BitVec 32 := 4#32
  let c0_i32_57 : BitVec 32 := 0#32
  let v69 : BitVec 1 := Scalar.cmpi .eq c4_i32_56 c0_i32_57
  let c1_i32_58 : BitVec 32 := 1#32
  let v70 : BitVec 32 := Scalar.select v69 c1_i32_58 c4_i32_56
  let v71 : BitVec 32 := Scalar.remsi v68 v70
  let c0_i32_60 : BitVec 32 := 0#32
  let v73 : BitVec 1 := Scalar.cmpi .slt v71 c0_i32_60
  let c0_i32_61 : BitVec 32 := 0#32
  let v74 : BitVec 1 := Scalar.cmpi .slt v70 c0_i32_61
  let v75 : BitVec 1 := Scalar.xori v73 v74
  let c0_i32_59 : BitVec 32 := 0#32
  let v72 : BitVec 1 := Scalar.cmpi .ne v71 c0_i32_59
  let v76 : BitVec 1 := Scalar.andi v75 v72
  let v77 : BitVec 32 := Scalar.addi v71 v70
  let v78 : BitVec 32 := Scalar.select v76 v77 v71
  let c512_i32_62 : BitVec 32 := 512#32
  let v79 : BitVec 32 := Scalar.muli v78 c512_i32_62
  let v80 : Index := Scalar.indexCast v79
  ![0, 0, v80.toNat]
def k0_off2 (d0 : Dev nD) (c0_i32_68 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v87 : BitVec 32 := Scalar.muli v2 c1024_i32
  let v88 : BitVec 32 := Scalar.addi v87 c0_i32_68
  let c0_i32_77 : BitVec 32 := 0#32
  ![v88.toNat, 0]
def k0_dev4 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_55 : BitVec 32 := 2#32
  let v68 : BitVec 32 := Scalar.addi v2 c2_i32_55
  let c4_i32_56 : BitVec 32 := 4#32
  let c0_i32_57 : BitVec 32 := 0#32
  let v69 : BitVec 1 := Scalar.cmpi .eq c4_i32_56 c0_i32_57
  let c1_i32_58 : BitVec 32 := 1#32
  let v70 : BitVec 32 := Scalar.select v69 c1_i32_58 c4_i32_56
  let v71 : BitVec 32 := Scalar.remsi v68 v70
  let c0_i32_60 : BitVec 32 := 0#32
  let v73 : BitVec 1 := Scalar.cmpi .slt v71 c0_i32_60
  let c0_i32_61 : BitVec 32 := 0#32
  let v74 : BitVec 1 := Scalar.cmpi .slt v70 c0_i32_61
  let v75 : BitVec 1 := Scalar.xori v73 v74
  let c0_i32_59 : BitVec 32 := 0#32
  let v72 : BitVec 1 := Scalar.cmpi .ne v71 c0_i32_59
  let v76 : BitVec 1 := Scalar.andi v75 v72
  let v77 : BitVec 32 := Scalar.addi v71 v70
  let v78 : BitVec 32 := Scalar.select v76 v77 v71
  let c1_i32_75 : BitVec 32 := 1#32
  let v89 : BitVec 32 := Scalar.muli v78 c1_i32_75
  let v90 : BitVec 32 := Scalar.addi c0_i32_76 v89
  v90.toNat
def k0_dev5 (d0 : Dev nD) : Nat :=
  let c0_i32_102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_80 : BitVec 32 := 1#32
  let v98 : BitVec 32 := Scalar.addi v2 c1_i32_80
  let c4_i32_81 : BitVec 32 := 4#32
  let c0_i32_82 : BitVec 32 := 0#32
  let v99 : BitVec 1 := Scalar.cmpi .eq c4_i32_81 c0_i32_82
  let c1_i32_83 : BitVec 32 := 1#32
  let v100 : BitVec 32 := Scalar.select v99 c1_i32_83 c4_i32_81
  let v101 : BitVec 32 := Scalar.remsi v98 v100
  let c0_i32_85 : BitVec 32 := 0#32
  let v103 : BitVec 1 := Scalar.cmpi .slt v101 c0_i32_85
  let c0_i32_86 : BitVec 32 := 0#32
  let v104 : BitVec 1 := Scalar.cmpi .slt v100 c0_i32_86
  let v105 : BitVec 1 := Scalar.xori v103 v104
  let c0_i32_84 : BitVec 32 := 0#32
  let v102 : BitVec 1 := Scalar.cmpi .ne v101 c0_i32_84
  let v106 : BitVec 1 := Scalar.andi v105 v102
  let v107 : BitVec 32 := Scalar.addi v101 v100
  let v108 : BitVec 32 := Scalar.select v106 v107 v101
  let c1_i32_101 : BitVec 32 := 1#32
  let v119 : BitVec 32 := Scalar.muli v108 c1_i32_101
  let v120 : BitVec 32 := Scalar.addi c0_i32_102 v119
  v120.toNat
def k0_dev6 (d0 : Dev nD) : Nat :=
  let c0_i32_128 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_106 : BitVec 32 := 3#32
  let v128 : BitVec 32 := Scalar.addi v2 c3_i32_106
  let c4_i32_107 : BitVec 32 := 4#32
  let c0_i32_108 : BitVec 32 := 0#32
  let v129 : BitVec 1 := Scalar.cmpi .eq c4_i32_107 c0_i32_108
  let c1_i32_109 : BitVec 32 := 1#32
  let v130 : BitVec 32 := Scalar.select v129 c1_i32_109 c4_i32_107
  let v131 : BitVec 32 := Scalar.remsi v128 v130
  let c0_i32_111 : BitVec 32 := 0#32
  let v133 : BitVec 1 := Scalar.cmpi .slt v131 c0_i32_111
  let c0_i32_112 : BitVec 32 := 0#32
  let v134 : BitVec 1 := Scalar.cmpi .slt v130 c0_i32_112
  let v135 : BitVec 1 := Scalar.xori v133 v134
  let c0_i32_110 : BitVec 32 := 0#32
  let v132 : BitVec 1 := Scalar.cmpi .ne v131 c0_i32_110
  let v136 : BitVec 1 := Scalar.andi v135 v132
  let v137 : BitVec 32 := Scalar.addi v131 v130
  let v138 : BitVec 32 := Scalar.select v136 v137 v131
  let c1_i32_127 : BitVec 32 := 1#32
  let v149 : BitVec 32 := Scalar.muli v138 c1_i32_127
  let v150 : BitVec 32 := Scalar.addi c0_i32_128 v149
  v150.toNat
def k0_off3 (d0 : Dev nD) : Fin 3 → Nat :=
  let c0_133 : Index := 0#32
  let c0_134 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_132 : BitVec 32 := 512#32
  let v158 : BitVec 32 := Scalar.muli v2 c512_i32_132
  let v159 : Index := Scalar.indexCast v158
  ![0, 0, v159.toNat]
def k0_off4 (d0 : Dev nD) (c2_i32_151 : BitVec 32) : Fin 3 → Nat :=
  let c1_159 : Index := 1#32
  let c0_160 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v178 : BitVec 32 := Scalar.addi v2 c2_i32_151
  let c4_i32_152 : BitVec 32 := 4#32
  let c0_i32_153 : BitVec 32 := 0#32
  let v179 : BitVec 1 := Scalar.cmpi .eq c4_i32_152 c0_i32_153
  let c1_i32_154 : BitVec 32 := 1#32
  let v180 : BitVec 32 := Scalar.select v179 c1_i32_154 c4_i32_152
  let v181 : BitVec 32 := Scalar.remsi v178 v180
  let c0_i32_156 : BitVec 32 := 0#32
  let v183 : BitVec 1 := Scalar.cmpi .slt v181 c0_i32_156
  let c0_i32_157 : BitVec 32 := 0#32
  let v184 : BitVec 1 := Scalar.cmpi .slt v180 c0_i32_157
  let v185 : BitVec 1 := Scalar.xori v183 v184
  let c0_i32_155 : BitVec 32 := 0#32
  let v182 : BitVec 1 := Scalar.cmpi .ne v181 c0_i32_155
  let v186 : BitVec 1 := Scalar.andi v185 v182
  let v187 : BitVec 32 := Scalar.addi v181 v180
  let v188 : BitVec 32 := Scalar.select v186 v187 v181
  let c512_i32_158 : BitVec 32 := 512#32
  let v189 : BitVec 32 := Scalar.muli v188 c512_i32_158
  let v190 : Index := Scalar.indexCast v189
  ![1, 0, v190.toNat]
def k0_dev7 (d0 : Dev nD) : Nat :=
  let c0_i32_174 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_151 : BitVec 32 := 2#32
  let v178 : BitVec 32 := Scalar.addi v2 c2_i32_151
  let c4_i32_152 : BitVec 32 := 4#32
  let c0_i32_153 : BitVec 32 := 0#32
  let v179 : BitVec 1 := Scalar.cmpi .eq c4_i32_152 c0_i32_153
  let c1_i32_154 : BitVec 32 := 1#32
  let v180 : BitVec 32 := Scalar.select v179 c1_i32_154 c4_i32_152
  let v181 : BitVec 32 := Scalar.remsi v178 v180
  let c0_i32_156 : BitVec 32 := 0#32
  let v183 : BitVec 1 := Scalar.cmpi .slt v181 c0_i32_156
  let c0_i32_157 : BitVec 32 := 0#32
  let v184 : BitVec 1 := Scalar.cmpi .slt v180 c0_i32_157
  let v185 : BitVec 1 := Scalar.xori v183 v184
  let c0_i32_155 : BitVec 32 := 0#32
  let v182 : BitVec 1 := Scalar.cmpi .ne v181 c0_i32_155
  let v186 : BitVec 1 := Scalar.andi v185 v182
  let v187 : BitVec 32 := Scalar.addi v181 v180
  let v188 : BitVec 32 := Scalar.select v186 v187 v181
  let c1_i32_173 : BitVec 32 := 1#32
  let v199 : BitVec 32 := Scalar.muli v188 c1_i32_173
  let v200 : BitVec 32 := Scalar.addi c0_i32_174 v199
  v200.toNat
def k0_dev8 (d0 : Dev nD) : Nat :=
  let c0_i32_201 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_178 : BitVec 32 := 1#32
  let v208 : BitVec 32 := Scalar.addi v2 c1_i32_178
  let c4_i32_179 : BitVec 32 := 4#32
  let c0_i32_180 : BitVec 32 := 0#32
  let v209 : BitVec 1 := Scalar.cmpi .eq c4_i32_179 c0_i32_180
  let c1_i32_181 : BitVec 32 := 1#32
  let v210 : BitVec 32 := Scalar.select v209 c1_i32_181 c4_i32_179
  let v211 : BitVec 32 := Scalar.remsi v208 v210
  let c0_i32_183 : BitVec 32 := 0#32
  let v213 : BitVec 1 := Scalar.cmpi .slt v211 c0_i32_183
  let c0_i32_184 : BitVec 32 := 0#32
  let v214 : BitVec 1 := Scalar.cmpi .slt v210 c0_i32_184
  let v215 : BitVec 1 := Scalar.xori v213 v214
  let c0_i32_182 : BitVec 32 := 0#32
  let v212 : BitVec 1 := Scalar.cmpi .ne v211 c0_i32_182
  let v216 : BitVec 1 := Scalar.andi v215 v212
  let v217 : BitVec 32 := Scalar.addi v211 v210
  let v218 : BitVec 32 := Scalar.select v216 v217 v211
  let c1_i32_200 : BitVec 32 := 1#32
  let v229 : BitVec 32 := Scalar.muli v218 c1_i32_200
  let v230 : BitVec 32 := Scalar.addi c0_i32_201 v229
  v230.toNat
def k0_dev9 (d0 : Dev nD) : Nat :=
  let c0_i32_228 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_205 : BitVec 32 := 3#32
  let v238 : BitVec 32 := Scalar.addi v2 c3_i32_205
  let c4_i32_206 : BitVec 32 := 4#32
  let c0_i32_207 : BitVec 32 := 0#32
  let v239 : BitVec 1 := Scalar.cmpi .eq c4_i32_206 c0_i32_207
  let c1_i32_208 : BitVec 32 := 1#32
  let v240 : BitVec 32 := Scalar.select v239 c1_i32_208 c4_i32_206
  let v241 : BitVec 32 := Scalar.remsi v238 v240
  let c0_i32_210 : BitVec 32 := 0#32
  let v243 : BitVec 1 := Scalar.cmpi .slt v241 c0_i32_210
  let c0_i32_211 : BitVec 32 := 0#32
  let v244 : BitVec 1 := Scalar.cmpi .slt v240 c0_i32_211
  let v245 : BitVec 1 := Scalar.xori v243 v244
  let c0_i32_209 : BitVec 32 := 0#32
  let v242 : BitVec 1 := Scalar.cmpi .ne v241 c0_i32_209
  let v246 : BitVec 1 := Scalar.andi v245 v242
  let v247 : BitVec 32 := Scalar.addi v241 v240
  let v248 : BitVec 32 := Scalar.select v246 v247 v241
  let c1_i32_227 : BitVec 32 := 1#32
  let v259 : BitVec 32 := Scalar.muli v248 c1_i32_227
  let v260 : BitVec 32 := Scalar.addi c0_i32_228 v259
  v260.toNat
def k0_off5 (d0 : Dev nD) : Fin 3 → Nat :=
  let c1_233 : Index := 1#32
  let c0_234 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_232 : BitVec 32 := 512#32
  let v268 : BitVec 32 := Scalar.muli v2 c512_i32_232
  let v269 : Index := Scalar.indexCast v268
  ![1, 0, v269.toNat]
def k0_off6 (d0 : Dev nD) (c2_i32_251 : BitVec 32) : Fin 3 → Nat :=
  let c2_259 : Index := 2#32
  let c0_260 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v288 : BitVec 32 := Scalar.addi v2 c2_i32_251
  let c4_i32_252 : BitVec 32 := 4#32
  let c0_i32_253 : BitVec 32 := 0#32
  let v289 : BitVec 1 := Scalar.cmpi .eq c4_i32_252 c0_i32_253
  let c1_i32_254 : BitVec 32 := 1#32
  let v290 : BitVec 32 := Scalar.select v289 c1_i32_254 c4_i32_252
  let v291 : BitVec 32 := Scalar.remsi v288 v290
  let c0_i32_256 : BitVec 32 := 0#32
  let v293 : BitVec 1 := Scalar.cmpi .slt v291 c0_i32_256
  let c0_i32_257 : BitVec 32 := 0#32
  let v294 : BitVec 1 := Scalar.cmpi .slt v290 c0_i32_257
  let v295 : BitVec 1 := Scalar.xori v293 v294
  let c0_i32_255 : BitVec 32 := 0#32
  let v292 : BitVec 1 := Scalar.cmpi .ne v291 c0_i32_255
  let v296 : BitVec 1 := Scalar.andi v295 v292
  let v297 : BitVec 32 := Scalar.addi v291 v290
  let v298 : BitVec 32 := Scalar.select v296 v297 v291
  let c512_i32_258 : BitVec 32 := 512#32
  let v299 : BitVec 32 := Scalar.muli v298 c512_i32_258
  let v300 : Index := Scalar.indexCast v299
  ![2, 0, v300.toNat]
def k0_dev10 (d0 : Dev nD) : Nat :=
  let c0_i32_274 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_251 : BitVec 32 := 2#32
  let v288 : BitVec 32 := Scalar.addi v2 c2_i32_251
  let c4_i32_252 : BitVec 32 := 4#32
  let c0_i32_253 : BitVec 32 := 0#32
  let v289 : BitVec 1 := Scalar.cmpi .eq c4_i32_252 c0_i32_253
  let c1_i32_254 : BitVec 32 := 1#32
  let v290 : BitVec 32 := Scalar.select v289 c1_i32_254 c4_i32_252
  let v291 : BitVec 32 := Scalar.remsi v288 v290
  let c0_i32_256 : BitVec 32 := 0#32
  let v293 : BitVec 1 := Scalar.cmpi .slt v291 c0_i32_256
  let c0_i32_257 : BitVec 32 := 0#32
  let v294 : BitVec 1 := Scalar.cmpi .slt v290 c0_i32_257
  let v295 : BitVec 1 := Scalar.xori v293 v294
  let c0_i32_255 : BitVec 32 := 0#32
  let v292 : BitVec 1 := Scalar.cmpi .ne v291 c0_i32_255
  let v296 : BitVec 1 := Scalar.andi v295 v292
  let v297 : BitVec 32 := Scalar.addi v291 v290
  let v298 : BitVec 32 := Scalar.select v296 v297 v291
  let c1_i32_273 : BitVec 32 := 1#32
  let v309 : BitVec 32 := Scalar.muli v298 c1_i32_273
  let v310 : BitVec 32 := Scalar.addi c0_i32_274 v309
  v310.toNat
def k0_dev11 (d0 : Dev nD) : Nat :=
  let c0_i32_301 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_278 : BitVec 32 := 1#32
  let v318 : BitVec 32 := Scalar.addi v2 c1_i32_278
  let c4_i32_279 : BitVec 32 := 4#32
  let c0_i32_280 : BitVec 32 := 0#32
  let v319 : BitVec 1 := Scalar.cmpi .eq c4_i32_279 c0_i32_280
  let c1_i32_281 : BitVec 32 := 1#32
  let v320 : BitVec 32 := Scalar.select v319 c1_i32_281 c4_i32_279
  let v321 : BitVec 32 := Scalar.remsi v318 v320
  let c0_i32_283 : BitVec 32 := 0#32
  let v323 : BitVec 1 := Scalar.cmpi .slt v321 c0_i32_283
  let c0_i32_284 : BitVec 32 := 0#32
  let v324 : BitVec 1 := Scalar.cmpi .slt v320 c0_i32_284
  let v325 : BitVec 1 := Scalar.xori v323 v324
  let c0_i32_282 : BitVec 32 := 0#32
  let v322 : BitVec 1 := Scalar.cmpi .ne v321 c0_i32_282
  let v326 : BitVec 1 := Scalar.andi v325 v322
  let v327 : BitVec 32 := Scalar.addi v321 v320
  let v328 : BitVec 32 := Scalar.select v326 v327 v321
  let c1_i32_300 : BitVec 32 := 1#32
  let v339 : BitVec 32 := Scalar.muli v328 c1_i32_300
  let v340 : BitVec 32 := Scalar.addi c0_i32_301 v339
  v340.toNat
def k0_dev12 (d0 : Dev nD) : Nat :=
  let c0_i32_328 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_305 : BitVec 32 := 3#32
  let v348 : BitVec 32 := Scalar.addi v2 c3_i32_305
  let c4_i32_306 : BitVec 32 := 4#32
  let c0_i32_307 : BitVec 32 := 0#32
  let v349 : BitVec 1 := Scalar.cmpi .eq c4_i32_306 c0_i32_307
  let c1_i32_308 : BitVec 32 := 1#32
  let v350 : BitVec 32 := Scalar.select v349 c1_i32_308 c4_i32_306
  let v351 : BitVec 32 := Scalar.remsi v348 v350
  let c0_i32_310 : BitVec 32 := 0#32
  let v353 : BitVec 1 := Scalar.cmpi .slt v351 c0_i32_310
  let c0_i32_311 : BitVec 32 := 0#32
  let v354 : BitVec 1 := Scalar.cmpi .slt v350 c0_i32_311
  let v355 : BitVec 1 := Scalar.xori v353 v354
  let c0_i32_309 : BitVec 32 := 0#32
  let v352 : BitVec 1 := Scalar.cmpi .ne v351 c0_i32_309
  let v356 : BitVec 1 := Scalar.andi v355 v352
  let v357 : BitVec 32 := Scalar.addi v351 v350
  let v358 : BitVec 32 := Scalar.select v356 v357 v351
  let c1_i32_327 : BitVec 32 := 1#32
  let v369 : BitVec 32 := Scalar.muli v358 c1_i32_327
  let v370 : BitVec 32 := Scalar.addi c0_i32_328 v369
  v370.toNat
def k0_off7 (d0 : Dev nD) : Fin 3 → Nat :=
  let c2_333 : Index := 2#32
  let c0_334 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_332 : BitVec 32 := 512#32
  let v378 : BitVec 32 := Scalar.muli v2 c512_i32_332
  let v379 : Index := Scalar.indexCast v378
  ![2, 0, v379.toNat]
def k0_off8 (d0 : Dev nD) (c2_i32_351 : BitVec 32) : Fin 3 → Nat :=
  let c3 : Index := 3#32
  let c0_359 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v398 : BitVec 32 := Scalar.addi v2 c2_i32_351
  let c4_i32_352 : BitVec 32 := 4#32
  let c0_i32_353 : BitVec 32 := 0#32
  let v399 : BitVec 1 := Scalar.cmpi .eq c4_i32_352 c0_i32_353
  let c1_i32_354 : BitVec 32 := 1#32
  let v400 : BitVec 32 := Scalar.select v399 c1_i32_354 c4_i32_352
  let v401 : BitVec 32 := Scalar.remsi v398 v400
  let c0_i32_356 : BitVec 32 := 0#32
  let v403 : BitVec 1 := Scalar.cmpi .slt v401 c0_i32_356
  let c0_i32_357 : BitVec 32 := 0#32
  let v404 : BitVec 1 := Scalar.cmpi .slt v400 c0_i32_357
  let v405 : BitVec 1 := Scalar.xori v403 v404
  let c0_i32_355 : BitVec 32 := 0#32
  let v402 : BitVec 1 := Scalar.cmpi .ne v401 c0_i32_355
  let v406 : BitVec 1 := Scalar.andi v405 v402
  let v407 : BitVec 32 := Scalar.addi v401 v400
  let v408 : BitVec 32 := Scalar.select v406 v407 v401
  let c512_i32_358 : BitVec 32 := 512#32
  let v409 : BitVec 32 := Scalar.muli v408 c512_i32_358
  let v410 : Index := Scalar.indexCast v409
  ![3, 0, v410.toNat]
def k0_dev13 (d0 : Dev nD) : Nat :=
  let c0_i32_373 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_351 : BitVec 32 := 2#32
  let v398 : BitVec 32 := Scalar.addi v2 c2_i32_351
  let c4_i32_352 : BitVec 32 := 4#32
  let c0_i32_353 : BitVec 32 := 0#32
  let v399 : BitVec 1 := Scalar.cmpi .eq c4_i32_352 c0_i32_353
  let c1_i32_354 : BitVec 32 := 1#32
  let v400 : BitVec 32 := Scalar.select v399 c1_i32_354 c4_i32_352
  let v401 : BitVec 32 := Scalar.remsi v398 v400
  let c0_i32_356 : BitVec 32 := 0#32
  let v403 : BitVec 1 := Scalar.cmpi .slt v401 c0_i32_356
  let c0_i32_357 : BitVec 32 := 0#32
  let v404 : BitVec 1 := Scalar.cmpi .slt v400 c0_i32_357
  let v405 : BitVec 1 := Scalar.xori v403 v404
  let c0_i32_355 : BitVec 32 := 0#32
  let v402 : BitVec 1 := Scalar.cmpi .ne v401 c0_i32_355
  let v406 : BitVec 1 := Scalar.andi v405 v402
  let v407 : BitVec 32 := Scalar.addi v401 v400
  let v408 : BitVec 32 := Scalar.select v406 v407 v401
  let c1_i32_372 : BitVec 32 := 1#32
  let v419 : BitVec 32 := Scalar.muli v408 c1_i32_372
  let v420 : BitVec 32 := Scalar.addi c0_i32_373 v419
  v420.toNat
def k0_dev14 (d0 : Dev nD) : Nat :=
  let c0_i32_400 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_377 : BitVec 32 := 1#32
  let v428 : BitVec 32 := Scalar.addi v2 c1_i32_377
  let c4_i32_378 : BitVec 32 := 4#32
  let c0_i32_379 : BitVec 32 := 0#32
  let v429 : BitVec 1 := Scalar.cmpi .eq c4_i32_378 c0_i32_379
  let c1_i32_380 : BitVec 32 := 1#32
  let v430 : BitVec 32 := Scalar.select v429 c1_i32_380 c4_i32_378
  let v431 : BitVec 32 := Scalar.remsi v428 v430
  let c0_i32_382 : BitVec 32 := 0#32
  let v433 : BitVec 1 := Scalar.cmpi .slt v431 c0_i32_382
  let c0_i32_383 : BitVec 32 := 0#32
  let v434 : BitVec 1 := Scalar.cmpi .slt v430 c0_i32_383
  let v435 : BitVec 1 := Scalar.xori v433 v434
  let c0_i32_381 : BitVec 32 := 0#32
  let v432 : BitVec 1 := Scalar.cmpi .ne v431 c0_i32_381
  let v436 : BitVec 1 := Scalar.andi v435 v432
  let v437 : BitVec 32 := Scalar.addi v431 v430
  let v438 : BitVec 32 := Scalar.select v436 v437 v431
  let c1_i32_399 : BitVec 32 := 1#32
  let v449 : BitVec 32 := Scalar.muli v438 c1_i32_399
  let v450 : BitVec 32 := Scalar.addi c0_i32_400 v449
  v450.toNat
def k0_dev15 (d0 : Dev nD) : Nat :=
  let c0_i32_427 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_404 : BitVec 32 := 3#32
  let v458 : BitVec 32 := Scalar.addi v2 c3_i32_404
  let c4_i32_405 : BitVec 32 := 4#32
  let c0_i32_406 : BitVec 32 := 0#32
  let v459 : BitVec 1 := Scalar.cmpi .eq c4_i32_405 c0_i32_406
  let c1_i32_407 : BitVec 32 := 1#32
  let v460 : BitVec 32 := Scalar.select v459 c1_i32_407 c4_i32_405
  let v461 : BitVec 32 := Scalar.remsi v458 v460
  let c0_i32_409 : BitVec 32 := 0#32
  let v463 : BitVec 1 := Scalar.cmpi .slt v461 c0_i32_409
  let c0_i32_410 : BitVec 32 := 0#32
  let v464 : BitVec 1 := Scalar.cmpi .slt v460 c0_i32_410
  let v465 : BitVec 1 := Scalar.xori v463 v464
  let c0_i32_408 : BitVec 32 := 0#32
  let v462 : BitVec 1 := Scalar.cmpi .ne v461 c0_i32_408
  let v466 : BitVec 1 := Scalar.andi v465 v462
  let v467 : BitVec 32 := Scalar.addi v461 v460
  let v468 : BitVec 32 := Scalar.select v466 v467 v461
  let c1_i32_426 : BitVec 32 := 1#32
  let v479 : BitVec 32 := Scalar.muli v468 c1_i32_426
  let v480 : BitVec 32 := Scalar.addi c0_i32_427 v479
  v480.toNat
def k0_off9 (d0 : Dev nD) : Fin 3 → Nat :=
  let c3_432 : Index := 3#32
  let c0_433 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_431 : BitVec 32 := 512#32
  let v488 : BitVec 32 := Scalar.muli v2 c512_i32_431
  let v489 : Index := Scalar.indexCast v488
  ![3, 0, v489.toNat]
-- ==== ReferenceIdeal.lean ====
abbrev S4096x2048 : Shape := ⟨2, ![4096, 2048]⟩

abbrev nBuf : Space → Nat
  | .hbm => 2
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Views.lean ====
/-
The slices of the kernel's buffers, the contents that pass through them, and the index arithmetic that joins the two.

Every device holds 1024 rows of the argument. It stages them in four chunks of 256 rows; a chunk is cut into four bands of
512 columns, one for each device, rounded, and copied into the rows of the result that belong to the chunk. Slot `s` of the
three outgoing ones addresses the device `hop s` places further round.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.ViewIndex
public import Idealize.ShloMosaic.Lib.ValueIdx
public import Idealize.ShloMosaic.Lib.Tactic

@[expose] public section

noncomputable section

namespace Cert.Exchange

open Cert.KernelIdeal Cert.KernelIdeal.Gen
open Idealize.ShloMosaic
open Idealize.ShloMosaic.TcCoe
open Idealize.ShloMosaic.ValueIdx

variable {F : FTy → Type} [FloatOps F]

/-! ## Devices -/

/-- How far round the ring of devices the slots send: two places, one place, three places. -/
abbrev hop (s : Fin 3) : ℕ := ![2, 1, 3] s

/-- The device that slot `s` of device `c` sends to. -/
def peer (c : Dev nD) (s : Fin 3) : Dev nD := ⟨(c.val + hop s) % 4, Nat.mod_lt _ (by decide)⟩
/-- The device that sends to device `c` through slot `s`. -/
def from_ (c : Dev nD) (s : Fin 3) : Dev nD := ⟨(c.val + 4 - hop s) % 4, Nat.mod_lt _ (by decide)⟩

/-- The device that slot `s` comes from sends through it here, -/
theorem peer_from (c : Dev nD) (s : Fin 3) : peer (from_ c s) s = c := by revert c s; decide
/-- and the device that slot `s` goes to gets it from here. -/
theorem from_peer (c : Dev nD) (s : Fin 3) : from_ (peer c s) s = c := by revert c s; decide

/-! ## Slices -/

/-- The slices lie inside their arrays: of the argument, -/
theorem inb_x (k : Fin 4) : ∀ a, (![256 * k.val, 0] : Fin 2 → ℕ) a + S256x2048.size a ≤ S1024x2048.size a := by revert k; decide
/-- of the staging buffer, -/
theorem inb_stage (k : Fin 4) : ∀ a, (![k.val, 0, 0] : Fin 3 → ℕ) a + S1x256x2048.size a ≤ S4x256x2048.size a := by revert k; decide
/-- of the outgoing buffer, -/
theorem inb_comm (s : Fin 3) (k : Fin 4) : ∀ a, (![s.val, k.val, 0, 0] : Fin 4 → ℕ) a + S1x1x256x512.size a ≤ S3x4x256x512.size a := by
  revert s k; decide
/-- of the buffer of the device's own columns, -/
theorem inb_loc (k : Fin 4) : ∀ a, (![k.val, 0, 0] : Fin 3 → ℕ) a + S1x256x512.size a ≤ S4x256x512.size a := by revert k; decide
/-- of the semaphores by chunk, -/
theorem inb_sem4 (k : Fin 4) : ∀ a, (![k.val] : Fin 1 → ℕ) a + S1.size a ≤ S4.size a := by revert k; decide
/-- and of the semaphores by slot and chunk. -/
theorem inb_sem34 (s : Fin 3) (k : Fin 4) : ∀ a, (![s.val, k.val] : Fin 2 → ℕ) a + S1x1.size a ≤ S3x4.size a := by revert s k; decide

abbrev stageM : Memref sig .tc .vmem S4x256x2048 .f32 := Memref.whole cc0_scratch0
abbrev commM : Memref sig .tc .vmem S3x4x256x512 .bf16 := Memref.whole cc0_scratch1
abbrev locM : Memref sig .tc .vmem S4x256x512 .bf16 := Memref.whole cc0_scratch2

/-- Rows `256 k` and on of the argument. -/
abbrev xV (k : Fin 4) : Memref sig .tc .hbm S256x2048 .f32 :=
  (Memref.whole main_arg0 : Memref sig .tc .hbm S1024x2048 .f32).slice (Rect.unit (s := S1024x2048) ![256 * k.val, 0] S256x2048.size (inb_x k)) (fun _ => rfl)
/-- Chunk `k` of the staging buffer. -/
abbrev stageV (k : Fin 4) : Memref sig .tc .vmem S256x2048 .f32 :=
  (stageM.slice (Rect.unit (s := S4x256x2048) ![k.val, 0, 0] S1x256x2048.size (inb_stage k)) (fun _ => rfl)).squeeze S256x2048 squeezes_S1x256x2048_S256x2048
abbrev commR (s : Fin 3) (k : Fin 4) : Rect S3x4x256x512 := Rect.unit (s := S3x4x256x512) ![s.val, k.val, 0, 0] S1x1x256x512.size (inb_comm s k)
/-- Slot `s` of chunk `k` of the outgoing buffer. -/
abbrev commV (s : Fin 3) (k : Fin 4) : Memref sig .tc .vmem S256x512 .bf16 :=
  (commM.slice (commR s k) (fun _ => rfl)).squeeze S256x512 squeezes_S1x1x256x512_S256x512
abbrev locR (k : Fin 4) : Rect S4x256x512 := Rect.unit (s := S4x256x512) ![k.val, 0, 0] S1x256x512.size (inb_loc k)
/-- Chunk `k` of the buffer for the device's own columns. -/
abbrev locV (k : Fin 4) : Memref sig .tc .vmem S256x512 .bf16 :=
  (locM.slice (locR k) (fun _ => rfl)).squeeze S256x512 squeezes_S1x256x512_S256x512
/-- The rows of the result that chunk `k` of device `e` fills. -/
abbrev outV (e : Dev nD) (k : Fin 4) : Memref sig .tc .hbm S256x512 .bf16 :=
  (Memref.whole main_v1 : Memref sig .tc .hbm S4096x512 .bf16).slice
    (Rect.unit (s := S4096x512) (k0_off2 e (BitVec.ofNat 32 (256 * k.val))) S256x512.size (k0_off2_inb e k)) (fun _ => rfl)

abbrev loadS (k : Fin 4) : DmaSem sig := (((cc0_scratch3 : DmaSems sig S4).slice (Rect.unit (s := S4) ![k.val] S1.size (inb_sem4 k))).squeeze S_ squeezes_S1_S_).sem
abbrev copyS (k : Fin 4) : DmaSem sig := (((cc0_scratch4 : DmaSems sig S4).slice (Rect.unit (s := S4) ![k.val] S1.size (inb_sem4 k))).squeeze S_ squeezes_S1_S_).sem
abbrev sendS (s : Fin 3) (k : Fin 4) : DmaSem sig :=
  (((cc0_scratch5 : DmaSems sig S3x4).slice (Rect.unit (s := S3x4) ![s.val, k.val] S1x1.size (inb_sem34 s k))).squeeze S_ squeezes_S1x1_S_).sem
abbrev recvS (s : Fin 3) (k : Fin 4) : DmaSem sig :=
  (((cc0_scratch6 : DmaSems sig S3x4).slice (Rect.unit (s := S3x4) ![s.val, k.val] S1x1.size (inb_sem34 s k))).squeeze S_ squeezes_S1x1_S_).sem
abbrev barS : Sem sig := (SemArray.scalar (sig.barrier 0 rfl) : Sems sig S_).sem

/-- The numbers of the semaphores: for loads, -/
theorem loadS_val (k : Fin 4) : (loadS k).val = k.val := by revert k; decide
/-- for local copies, -/
theorem copyS_val (k : Fin 4) : (copyS k).val = 4 + k.val := by revert k; decide
/-- for sending, -/
theorem sendS_val (s : Fin 3) (k : Fin 4) : (sendS s k).val = 8 + 4 * s.val + k.val := by revert s k; decide
/-- and for receiving. -/
theorem recvS_val (s : Fin 3) (k : Fin 4) : (recvS s k).val = 20 + 4 * s.val + k.val := by revert s k; decide

/-! ## The elements under each slice, by their coordinates -/

/-- Chunk `k` of the argument: 256 rows. -/
theorem mem_xV {k : Fin 4} {i : S1024x2048.Idx} : i ∈ (xV k).view.set ↔ (i 0).val / 256 = k.val := by
  rw [show (xV k).view.set = _ from View.set_slice_whole _ _, Rect.mem_set_unit]
  refine Fin.forall_fin_two.trans ?_
  have h1 : (i 1).val < 2048 := (i 1).isLt
  show (256 * k.val ≤ (i 0).val ∧ (i 0).val < 256 * k.val + 256) ∧ (0 ≤ (i 1).val ∧ (i 1).val < 0 + 2048) ↔ _
  omega

/-- Chunk `k` of the staging buffer. -/
theorem mem_stageV {k : Fin 4} {i : S4x256x2048.Idx} : i ∈ (stageV k).view.set ↔ (i 0).val = k.val := by
  rw [show (stageV k).view.set = _ from View.set_reshape _ _, View.set_slice_whole, Rect.mem_set_unit]
  refine (Fin.forall_fin_succ.trans (and_congr_right' Fin.forall_fin_two)).trans ?_
  have h1 : (i 1).val < 256 := (i 1).isLt
  have h2 : (i 2).val < 2048 := (i 2).isLt
  show (k.val ≤ (i 0).val ∧ (i 0).val < k.val + 1) ∧ (0 ≤ (i 1).val ∧ (i 1).val < 0 + 256) ∧ (0 ≤ (i 2).val ∧ (i 2).val < 0 + 2048) ↔ _
  omega

/-- Slot `s`, chunk `k` of the outgoing buffer, -/
theorem mem_commR {s : Fin 3} {k : Fin 4} {i : S3x4x256x512.Idx} : i ∈ (commR s k).set ↔ (i 0).val = s.val ∧ (i 1).val = k.val := by
  rw [Rect.mem_set_unit, Fin.forall_fin_succ, Fin.forall_fin_succ, Fin.forall_fin_two]
  have h2 : (i 2).val < 256 := (i 2).isLt
  have h3 : (i 3).val < 512 := (i 3).isLt
  show (s.val ≤ (i 0).val ∧ (i 0).val < s.val + 1) ∧ (k.val ≤ (i 1).val ∧ (i 1).val < k.val + 1)
    ∧ (0 ≤ (i 2).val ∧ (i 2).val < 0 + 256) ∧ (0 ≤ (i 3).val ∧ (i 3).val < 0 + 512) ↔ _
  omega

/-- which is what the copies read of it. -/
theorem set_commV (s : Fin 3) (k : Fin 4) : (commV s k).view.set = (commR s k).set :=
  (View.set_reshape _ _).trans (View.set_slice_whole _ _)

/-- Chunk `k` of the device's own columns, -/
theorem mem_locR {k : Fin 4} {i : S4x256x512.Idx} : i ∈ (locR k).set ↔ (i 0).val = k.val := by
  rw [Rect.mem_set_unit, Fin.forall_fin_succ, Fin.forall_fin_two]
  have h1 : (i 1).val < 256 := (i 1).isLt
  have h2 : (i 2).val < 512 := (i 2).isLt
  show (k.val ≤ (i 0).val ∧ (i 0).val < k.val + 1) ∧ (0 ≤ (i 1).val ∧ (i 1).val < 0 + 256) ∧ (0 ≤ (i 2).val ∧ (i 2).val < 0 + 512) ↔ _
  omega

/-- which is what the copies read of it. -/
theorem set_locV (k : Fin 4) : (locV k).view.set = (locR k).set :=
  (View.set_reshape _ _).trans (View.set_slice_whole _ _)

/-- Chunk `k` from device `e` in the result: 256 of the 1024 rows that come from there. -/
theorem mem_outV {e : Dev nD} {k : Fin 4} {i : S4096x512.Idx} :
    i ∈ (outV e k).view.set ↔ (i 0).val / 1024 = e.val ∧ (i 0).val / 256 % 4 = k.val := by
  rw [show (outV e k).view.set = _ from View.set_slice_whole _ _, Rect.mem_set_unit, k0_off2_eq e k]
  refine Fin.forall_fin_two.trans ?_
  have h1 : (i 1).val < 512 := (i 1).isLt
  have hk := k.isLt
  show (1024 * e.val + 256 * k.val ≤ (i 0).val ∧ (i 0).val < 1024 * e.val + 256 * k.val + 256) ∧ (0 ≤ (i 1).val ∧ (i 1).val < 0 + 512) ↔ _
  omega

/-! ## Contents -/

variable (m : (ℓ : Loc nD τ sig) → Buf (Elt F) ℓ)

/-- The index of the argument at row `r` and column `j`. -/
def xIdx (r j : ℕ) : S1024x2048.Idx := ix2 ⟨r % 1024, Nat.mod_lt _ (by decide)⟩ ⟨j % 2048, Nat.mod_lt _ (by decide)⟩

/-- Row `r`, column `j` of device `d`'s argument (each number wrapped round to its range). -/
def xAt (d r j : ℕ) : F .f32 :=
  (m (((⟨d % 4, Nat.mod_lt _ (by decide)⟩ : Dev nD) : Thread nD τ).loc main_arg0) : main_arg0.ty.Contents (Elt F)) (xIdx r j)

/-- The rounding the kernel applies to each element. -/
def rnd (x : F .f32) : F .bf16 := FloatOps.truncf .bf16 bitsLt_bf16_f32 x

/-- The staging buffer once filled: row `i` of chunk `k` is row `256 k + i` of the argument. -/
def stageF (c : Dev nD) : cc0_scratch0.ty.Contents (Elt F) := fun i => xAt m c.val (256 * (i 0).val + (i 1).val) (i 2).val
/-- The outgoing buffer once filled: slot `s` holds the rounded columns of the device it goes to. -/
def commF (c : Dev nD) : cc0_scratch1.ty.Contents (Elt F) :=
  fun i => rnd (xAt m c.val (256 * (i 1).val + (i 2).val) (512 * (peer c (i 0)).val + (i 3).val))
/-- The buffer of the device's own columns once filled. -/
def locF (c : Dev nD) : cc0_scratch2.ty.Contents (Elt F) := fun i => rnd (xAt m c.val (256 * (i 0).val + (i 1).val) (512 * c.val + (i 2).val))
/-- The result: row `r` comes from row `r % 1024` of device `r / 1024`, the columns are the device's own 512. -/
def outF (c : Dev nD) : main_v1.ty.Contents (Elt F) := fun i => rnd (xAt m ((i 0).val / 1024) ((i 0).val % 1024) (512 * c.val + (i 1).val))

/-- The argument by rows and columns. -/
theorem arg_eq_xAt (c : Dev nD) (i : S1024x2048.Idx) :
    (m ((c : Thread nD τ).loc main_arg0) : main_arg0.ty.Contents (Elt F)) i = xAt m c.val (i 0).val (i 1).val := by
  unfold xAt
  rw [show (⟨c.val % 4, Nat.mod_lt _ (by decide)⟩ : Dev nD) = c from Fin.ext (Nat.mod_eq_of_lt c.isLt)]
  refine congrArg _ ?_
  funext a
  match a with
  | ⟨0, _⟩ => exact Fin.ext (Nat.mod_eq_of_lt (i 0).isLt).symm
  | ⟨1, _⟩ => exact Fin.ext (Nat.mod_eq_of_lt (i 1).isLt).symm

/-! ## What the slices read of those contents -/

section Reshape

/-- An index of a block is that of the same block under one leading axis of length 1, -/
theorem drop3 {n : ℕ} (h : (⟨2, ![256, n]⟩ : Shape).numel = (⟨3, ![1, 256, n]⟩ : Shape).numel) (x : (⟨2, ![256, n]⟩ : Shape).Idx) :
    Shape.reshapeEquiv h x = (ix3 (0 : Fin 1) (x 0) (x 1) : (⟨3, ![1, 256, n]⟩ : Shape).Idx) := by
  refine Shape.reshapeEquiv_eq_of_rowMajor h ?_
  rw [Shape.rowMajor_val_two, Shape.rowMajor_val_three]
  show (0 * 256 + (x 0).val) * n + (x 1).val = (x 0).val * n + (x 1).val
  rw [Nat.zero_mul, Nat.zero_add]

/-- or under two; -/
theorem drop4 {n : ℕ} (h : (⟨2, ![256, n]⟩ : Shape).numel = (⟨4, ![1, 1, 256, n]⟩ : Shape).numel) (x : (⟨2, ![256, n]⟩ : Shape).Idx) :
    Shape.reshapeEquiv h x = (ix4 (0 : Fin 1) (0 : Fin 1) (x 0) (x 1) : (⟨4, ![1, 1, 256, n]⟩ : Shape).Idx) := by
  refine Shape.reshapeEquiv_eq_of_rowMajor h ?_
  rw [Shape.rowMajor_val_two, Shape.rowMajor_val_four]
  show ((0 * 1 + 0) * 256 + (x 0).val) * n + (x 1).val = (x 0).val * n + (x 1).val
  rw [Nat.zero_mul, Nat.zero_add]

/-- and back from one -/
theorem add3 {n : ℕ} (h : (⟨3, ![1, 256, n]⟩ : Shape).numel = (⟨2, ![256, n]⟩ : Shape).numel) (x : (⟨3, ![1, 256, n]⟩ : Shape).Idx) :
    Shape.reshapeEquiv h x = (ix2 (x 1) (x 2) : (⟨2, ![256, n]⟩ : Shape).Idx) := by
  refine Shape.reshapeEquiv_eq_of_rowMajor h ?_
  rw [Shape.rowMajor_val_two, Shape.rowMajor_val_three]
  have h0 : (x 0).val = 0 := Nat.lt_one_iff.mp (x 0).isLt
  show (x 1).val * n + (x 2).val = ((x 0).val * 256 + (x 1).val) * n + (x 2).val
  rw [h0, Nat.zero_mul, Nat.zero_add]

/-- and from two. -/
theorem add4 {n : ℕ} (h : (⟨4, ![1, 1, 256, n]⟩ : Shape).numel = (⟨2, ![256, n]⟩ : Shape).numel) (x : (⟨4, ![1, 1, 256, n]⟩ : Shape).Idx) :
    Shape.reshapeEquiv h x = (ix2 (x 2) (x 3) : (⟨2, ![256, n]⟩ : Shape).Idx) := by
  refine Shape.reshapeEquiv_eq_of_rowMajor h ?_
  rw [Shape.rowMajor_val_two, Shape.rowMajor_val_four]
  have h0 : (x 0).val = 0 := Nat.lt_one_iff.mp (x 0).isLt
  have h1 : (x 1).val = 0 := Nat.lt_one_iff.mp (x 1).isLt
  show (x 2).val * n + (x 3).val = (((x 0).val * 1 + (x 1).val) * 256 + (x 2).val) * n + (x 3).val
  rw [h0, h1, Nat.zero_mul, Nat.zero_add]

end Reshape

/-- Chunk `k` of the argument is chunk `k` of the filled staging buffer. -/
theorem read_x (c : Dev nD) (k : Fin 4) :
    (xV k).view.read (Elt F) (m ((c : Thread nD τ).loc main_arg0)) = (stageV k).view.read (Elt F) (stageF m c) := by
  funext x
  show (m ((c : Thread nD τ).loc main_arg0) : main_arg0.ty.Contents (Elt F)) ((xV k).view.emb x) = stageF m c ((stageV k).view.emb x)
  rw [arg_eq_xAt m c]
  unfold stageF
  show xAt m _ _ _ = xAt m _ (256 * ((((Rect.unit (s := S4x256x2048) ![k.val, 0, 0] S1x256x2048.size (inb_stage k))).emb (Shape.reshapeEquiv _ x)) 0).val
    + ((((Rect.unit (s := S4x256x2048) ![k.val, 0, 0] S1x256x2048.size (inb_stage k))).emb (Shape.reshapeEquiv _ x)) 1).val)
    ((((Rect.unit (s := S4x256x2048) ![k.val, 0, 0] S1x256x2048.size (inb_stage k))).emb (Shape.reshapeEquiv _ x)) 2).val
  rw [drop3]
  show xAt m c.val (256 * k.val + 1 * (x 0).val) (0 + 1 * (x 1).val) = xAt m c.val (256 * (k.val + 1 * 0) + (0 + 1 * (x 0).val)) (0 + 1 * (x 1).val)
  congr 1; omega

/-- A band of 512 columns of the filled staging buffer, the `t`-th, at chunk `k`. -/
theorem read_stage (c : Dev nD) (k : Fin 4) (t : ℕ) (off : Fin 3 → ℕ) (hoff : off = ![k.val, 0, 512 * t])
    (inb : ∀ a, off a + S1x256x512.size a ≤ S4x256x2048.size a) (x : S1x256x512.Idx) :
    stageM.view.readAt (Elt F) (Rect.unit (s := S4x256x2048) off S1x256x512.size inb).toLoadRect (stageF m c) x
      = xAt m c.val (256 * k.val + (x 1).val) (512 * t + (x 2).val) := by
  subst hoff
  have h0 : (x 0).val < 1 := (x 0).isLt
  show xAt m c.val (256 * (k.val + 1 * (x 0).val) + (0 + 1 * (x 1).val)) (512 * t + 1 * (x 2).val) = _
  congr 1 <;> omega

/-- The value stored in slot `s` of chunk `k` is what the filled outgoing buffer holds there. -/
theorem pay_comm (c : Dev nD) (s : Fin 3) (k : Fin 4) (v : Vec F S1x256x512 .f32)
    (hv : ∀ x, v x = xAt m c.val (256 * k.val + (x 1).val) (512 * (peer c s).val + (x 2).val)) :
    (commM.access (commR s k)).read (Elt F) (commF m c) = k0_pay1 v := by
  funext x
  have h0 : (x 0).val < 1 := (x 0).isLt
  have h1 : (x 1).val < 1 := (x 1).isLt
  show commF m c ((commR s k).emb x) = rnd (v (Shape.reshapeEquiv _ (Shape.reshapeEquiv _ x)))
  rw [add4, drop3, hv]
  unfold commF
  have e0 : ((commR s k).emb x) 0 = s := Fin.ext (by show s.val + 1 * (x 0).val = s.val; omega)
  rw [e0]
  show rnd (xAt m c.val (256 * (k.val + 1 * (x 1).val) + (0 + 1 * (x 2).val)) (512 * (peer c s).val + (0 + 1 * (x 3).val)))
    = rnd (xAt m c.val (256 * k.val + (x 2).val) (512 * (peer c s).val + (x 3).val))
  congr 2 <;> omega

/-- The value stored in chunk `k` of the device's own columns is what the filled buffer holds there. -/
theorem pay_loc (c : Dev nD) (k : Fin 4) (v : Vec F S1x256x512 .f32)
    (hv : ∀ x, v x = xAt m c.val (256 * k.val + (x 1).val) (512 * c.val + (x 2).val)) :
    (locM.access (locR k)).read (Elt F) (locF m c) = k0_pay4 v := by
  funext x
  have h0 : (x 0).val < 1 := (x 0).isLt
  show locF m c ((locR k).emb x) = rnd (v (Shape.reshapeEquiv _ (Shape.reshapeEquiv _ x)))
  rw [add3, drop3, hv]
  unfold locF
  show rnd (xAt m c.val (256 * (k.val + 1 * (x 0).val) + (0 + 1 * (x 1).val)) (512 * c.val + (0 + 1 * (x 2).val)))
    = rnd (xAt m c.val (256 * k.val + (x 1).val) (512 * c.val + (x 2).val))
  congr 2 <;> omega

/-- Where row and column of a chunk from device `e` lie in the result. -/
theorem off2_eq (e : Dev nD) (k : Fin 4) (x : S256x512.Idx) :
    ((outV e k).view.emb x 0).val = 1024 * e.val + 256 * k.val + (x 0).val ∧ ((outV e k).view.emb x 1).val = (x 1).val := by
  constructor
  · show k0_off2 e (BitVec.ofNat 32 (256 * k.val)) 0 + 1 * (x 0).val = _
    rw [k0_off2_eq e k, Nat.one_mul]; rfl
  · show k0_off2 e (BitVec.ofNat 32 (256 * k.val)) 1 + 1 * (x 1).val = _
    rw [k0_off2_eq e k, Nat.one_mul]; exact Nat.zero_add _

/-- The rows of device `e`'s result that chunk `k` of device `c` fills, read out of the result. -/
theorem read_out (c e : Dev nD) (k : Fin 4) (x : S256x512.Idx) :
    (outV c k).view.read (Elt F) (outF m e) x = rnd (xAt m c.val (256 * k.val + (x 0).val) (512 * e.val + (x 1).val)) := by
  show outF m e ((outV c k).view.emb x) = _
  unfold outF
  rw [(off2_eq c k x).1, (off2_eq c k x).2]
  have h0 : (x 0).val < 256 := (x 0).isLt
  have hk := k.isLt
  congr 2 <;> omega

/-- What slot `s` of chunk `k` carries is what it leaves in the result of the device it goes to. -/
theorem read_comm (c : Dev nD) (s : Fin 3) (k : Fin 4) :
    (commV s k).view.read (Elt F) (commF m c) = (outV c k).view.read (Elt F) (outF m (peer c s)) := by
  funext x
  rw [read_out]
  show commF m c ((commR s k).emb (Shape.reshapeEquiv _ x)) = _
  rw [drop4]
  unfold commF
  have e0 : ((commR s k).emb (ix4 (0 : Fin 1) (0 : Fin 1) (x 0) (x 1))) 0 = s := Fin.ext (by show s.val + 1 * 0 = s.val; omega)
  rw [e0]
  show rnd (xAt m c.val (256 * (k.val + 1 * 0) + (0 + 1 * (x 0).val)) (512 * (peer c s).val + (0 + 1 * (x 1).val))) = _
  congr 2 <;> omega

/-- What the device's own columns of chunk `k` leave in its own result. -/
theorem read_loc (c : Dev nD) (k : Fin 4) : (locV k).view.read (Elt F) (locF m c) = (outV c k).view.read (Elt F) (outF m c) := by
  funext x
  rw [read_out]
  show locF m c ((locR k).emb (Shape.reshapeEquiv _ x)) = _
  rw [drop3]
  unfold locF
  show rnd (xAt m c.val (256 * (k.val + 1 * 0) + (0 + 1 * (x 0).val)) (512 * c.val + (0 + 1 * (x 1).val))) = _
  congr 2 <;> omega

/-- Two contents that a view reads alike agree on the view's elements. -/
theorem eq_on_set {Val : EltTy → Type} {sp : Space} {s : Shape} {e : EltTy} (v : View sig .tc sp s e) {f g : v.ty.Contents Val}
    (h : v.read Val f = v.read Val g) : ∀ i ∈ v.set, f i = g i := fun i hi => by
  obtain ⟨x, -, rfl⟩ := Finset.mem_map.mp hi
  exact View.eq_of_read_eq (v := v) (congrFun h x)

/-- Writing through a view what some contents hold under it leaves, on the view's elements, those contents. -/
theorem write_eq_on {Val : EltTy → Type} {sp : Space} {s : Shape} {e : EltTy} (v : View sig .tc sp s e) (f : v.ty.Contents Val)
    {g : v.ty.Contents Val} {w : s.Idx → Val e} (h : w = v.read Val g) : ∀ i ∈ v.set, v.write Val f w Finset.univ i = g i :=
  eq_on_set v ((v.read_write_univ f w).trans h)

end Cert.Exchange

end
-- ==== Proof.Protocol.lean ====
/-
Who waits for whom, and what each wait receives.

Every semaphore of a device is used for one round.
* The barrier: the three devices that this one will send to each add one unit, and with it the rows of their result that this
  device's chunks fill. The device waits for three.
* A loading semaphore, one per chunk: the copy of the chunk into the staging buffer pays it; the wait returns the chunk of
  the argument and the filled chunk of the staging buffer.
* A sending semaphore, one per slot and chunk: the outgoing copy pays it, the wait returns the slot of the outgoing buffer.
* A receiving semaphore, one per slot and chunk: paid by the copy that another device sends; the wait receives the rows of the
  result that the copy fills.
* A copying semaphore, one per chunk: the copy of the device's own columns into its own result.
-/
module

public import proofs.«01_k».proof.Proof.Views

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores of a device -/

/-- The barrier; a loading and a copying semaphore per chunk; a sending and a receiving one per slot and chunk. -/
abbrev Slot : Type := Unit ⊕ (Fin 4 ⊕ Fin 4) ⊕ (Fin 3 × Fin 4) ⊕ (Fin 3 × Fin 4)

instance : DecidableEq (Dev nD × Slot) := instDecidableEqProd

@[match_pattern] abbrev Slot.bar : Slot := .inl ()
@[match_pattern] abbrev Slot.load (k : Fin 4) : Slot := .inr (.inl (.inl k))
@[match_pattern] abbrev Slot.copy (k : Fin 4) : Slot := .inr (.inl (.inr k))
@[match_pattern] abbrev Slot.send (p : Fin 3 × Fin 4) : Slot := .inr (.inr (.inl p))
@[match_pattern] abbrev Slot.recv (p : Fin 3 × Fin 4) : Slot := .inr (.inr (.inr p))

/-- The semaphore of a slot, -/
abbrev semOf : Slot → SemLoc sig
  | .bar => .reg barS
  | .load k => .dma (loadS k)
  | .copy k => .dma (copyS k)
  | .send p => .dma (sendS p.1 p.2)
  | .recv p => .dma (recvS p.1 p.2)

/-- and the slot of a semaphore. -/
def slotOf : SemLoc sig → Slot
  | .reg _ => .bar
  | .dma q =>
    if q.val < 4 then .load ⟨q.val % 4, Nat.mod_lt _ (by decide)⟩
    else if q.val < 8 then .copy ⟨q.val % 4, Nat.mod_lt _ (by decide)⟩
    else if q.val < 20 then .send (⟨(q.val - 8) / 4 % 3, Nat.mod_lt _ (by decide)⟩, ⟨q.val % 4, Nat.mod_lt _ (by decide)⟩)
    else .recv (⟨(q.val - 20) / 4 % 3, Nat.mod_lt _ (by decide)⟩, ⟨q.val % 4, Nat.mod_lt _ (by decide)⟩)

/-- A loading semaphore's slot, -/
theorem slotOf_load (k : Fin 4) : slotOf (.dma (loadS k)) = .load k := by revert k; decide
/-- a local copy's, -/
theorem slotOf_copy (k : Fin 4) : slotOf (.dma (copyS k)) = .copy k := by revert k; decide
/-- a sending semaphore's, -/
theorem slotOf_send (s : Fin 3) (k : Fin 4) : slotOf (.dma (sendS s k)) = .send (s, k) := by revert s k; decide
/-- and a receiving semaphore's. -/
theorem slotOf_recv (s : Fin 3) (k : Fin 4) : slotOf (.dma (recvS s k)) = .recv (s, k) := by revert s k; decide

/-- The slot of a slot's semaphore is that slot. -/
theorem slotOf_semOf : ∀ t : Slot, slotOf (semOf t) = t
  | .bar => rfl
  | .load k => slotOf_load k
  | .copy k => slotOf_copy k
  | .send (s, k) => slotOf_send s k
  | .recv (s, k) => slotOf_recv s k

/-- The semaphore of slot `t` on device `c`. -/
abbrev cell (c : Dev nD) (t : Slot) : GSem nD τ sig := ((c : Thread nD τ), semOf t)

/-- Semaphores are equal only if their devices and slots are. -/
theorem cell_inj {c c' : Dev nD} {t t' : Slot} (h : cell c t = cell c' t') : c = c' ∧ t = t' :=
  ⟨congrArg (fun g : GSem nD τ sig => g.1.1) h, by
    have := congrArg (fun g : GSem nD τ sig => slotOf g.2) h
    simpa only [slotOf_semOf] using this⟩

/-! ## Amounts -/

/-- The four copies of chunks of the argument add the same amount, -/
theorem exists_NL : ∃ n, ∀ k, (stageV k).view.dmaCredit = n := ⟨_, fun _ => rfl⟩
/-- and so do the four local copies. -/
theorem exists_NB : ∃ n, ∀ k, (locV k).view.dmaCredit = n := ⟨_, fun _ => rfl⟩

/-- What a copy of a chunk of the argument adds (a number that is never computed); -/
def NL : ℕ := exists_NL.choose
/-- what a copy of 256 rows of the result adds. -/
def NB : ℕ := exists_NB.choose

/-- A chunk of the staging buffer has that first amount, -/
theorem NL_eq (k : Fin 4) : (stageV k).view.dmaCredit = NL := exists_NL.choose_spec k
/-- a chunk of the device's own columns the second, -/
theorem NB_loc (k : Fin 4) : (locV k).view.dmaCredit = NB := exists_NB.choose_spec k
/-- as has an outgoing chunk -/
theorem NB_comm (s : Fin 3) (k : Fin 4) : (commV s k).view.dmaCredit = NB := NB_loc k
/-- and a chunk of the result. -/
theorem NB_out (c : Dev nD) (k : Fin 4) : (outV c k).view.dmaCredit = NB := NB_loc k

/-- The first amount is positive, -/
theorem NL_pos : 0 < NL := NL_eq 0 ▸ View.dmaCredit_pos _ (by decide)
/-- and so is the second. -/
theorem NB_pos : 0 < NB := NB_loc 0 ▸ View.dmaCredit_pos _ (by decide)

def amt : Slot → ℕ
  | .bar => 1
  | .load _ => NL
  | .copy _ => NB
  | .send _ => NB
  | .recv _ => NB

/-- Every amount is positive. -/
theorem amt_pos (t : Slot) : 0 < amt t := by
  rcases t with _ | (k | k) | p | p <;> unfold amt
  · exact Nat.one_pos
  · exact NL_pos
  · exact NB_pos
  · exact NB_pos
  · exact NB_pos

def dutiesOf : Slot → Finset (Fin 3)
  | .bar => Finset.univ
  | _ => {0}

/-! ## The parts of the buffers -/

variable (m : (ℓ : Loc nD τ sig) → Buf (Elt F) ℓ)

/-- Chunk `k` of device `c`'s argument. -/
def xP (c : Dev nD) (k : Fin 4) : sProp 𝕄 := (xV k).view.loc (c : Thread nD τ) ↦[(xV k).view.set]{fullShare} m ((c : Thread nD τ).loc main_arg0)
/-- Chunk `k` of device `c`'s staging buffer at contents `f`. -/
def stP (c : Dev nD) (k : Fin 4) (f : cc0_scratch0.ty.Contents (Elt F)) : sProp 𝕄 := (stageV k).view.loc (c : Thread nD τ) ↦[(stageV k).view.set]{fullShare} f
/-- Slot `s` of chunk `k` of device `c`'s outgoing buffer at contents `f`. -/
def coP (c : Dev nD) (s : Fin 3) (k : Fin 4) (f : cc0_scratch1.ty.Contents (Elt F)) : sProp 𝕄 :=
  (commV s k).view.loc (c : Thread nD τ) ↦[(commV s k).view.set]{fullShare} f
/-- Chunk `k` of the buffer of device `c`'s own columns at contents `f`. -/
def loP (c : Dev nD) (k : Fin 4) (f : cc0_scratch2.ty.Contents (Elt F)) : sProp 𝕄 := (locV k).view.loc (c : Thread nD τ) ↦[(locV k).view.set]{fullShare} f
/-- The rows of device `e`'s result that chunk `k` of device `c` fills, at contents `f`. -/
def ouP (e c : Dev nD) (k : Fin 4) (f : main_v1.ty.Contents (Elt F)) : sProp 𝕄 := (outV c k).view.loc (e : Thread nD τ) ↦[(outV c k).view.set]{fullShare} f

omit [FloatOps F] in
instance xP_storable (c : Dev nD) (k) : BI.Storable (upEmb : UEmb _ 𝕄) (xP m c k) := by unfold xP; infer_instance
omit [FloatOps F] in
instance stP_storable (c : Dev nD) (k f) : BI.Storable (upEmb : UEmb _ 𝕄) (stP (F := F) c k f) := by unfold stP; infer_instance
omit [FloatOps F] in
instance coP_storable (c : Dev nD) (s k f) : BI.Storable (upEmb : UEmb _ 𝕄) (coP (F := F) c s k f) := by unfold coP; infer_instance
omit [FloatOps F] in
instance loP_storable (c : Dev nD) (k f) : BI.Storable (upEmb : UEmb _ 𝕄) (loP (F := F) c k f) := by unfold loP; infer_instance
omit [FloatOps F] in
instance ouP_storable (e c : Dev nD) (k f) : BI.Storable (upEmb : UEmb _ 𝕄) (ouP (F := F) e c k f) := by unfold ouP; infer_instance

/-! ## The schedule -/

/-- The rows of device `e`'s result that device `c` fills, at some contents. -/
def rows (e c : Dev nD) : sProp 𝕄 := bigSep Finset.univ fun k : Fin 4 => iprop(∃ f, ouP e c k f)

omit [FloatOps F] in
instance rows_storable (e c : Dev nD) : BI.Storable (upEmb : UEmb _ 𝕄) (rows (F := F) e c) := by unfold rows; infer_instance

/-- What paying duty `d` of device `c`'s slot hands over. -/
def pay (c : Dev nD) (d : Fin 3) : Slot → sProp 𝕄
  | .bar => rows (peer c d) c
  | .load k => iprop(stP c k (stageF m c) ∗ xP m c k)
  | .copy k => iprop(ouP c c k (outF m c) ∗ loP c k (locF m c))
  | .send p => coP c p.1 p.2 (commF m c)
  | .recv p => ouP c (from_ c p.1) p.2 (outF m c)

instance pay_storable (c : Dev nD) (d : Fin 3) (t : Slot) : BI.Storable (upEmb : UEmb _ 𝕄) (pay (F := F) m c d t) := by
  unfold pay; split <;> infer_instance

/-- One round on every semaphore of the devices' main processors. -/
def Sc : Rounds.Schedule (GSem nD τ sig) (Fin 3) 𝕄 where
  duties g r := if r = 0 ∧ g.1.2 = .tc then dutiesOf (slotOf g.2) else ∅
  unitless _ := False
  amount g _ _ := amt (slotOf g.2)
  payload g _ d := pay m g.1.1 d (slotOf g.2)
  amount_pos g _ _ _ := amt_pos _

instance Sc_storable (g : GSem nD τ sig) (r : ℕ) (d : Fin 3) : BI.Storable (upEmb : UEmb _ 𝕄) ((Sc (F := F) m).payload g r d) :=
  pay_storable m g.1.1 d (slotOf g.2)

section Sched
variable (c : Dev nD) (t : Slot)

/-- The duties of a slot's only round, -/
theorem Sc_duties : (Sc (F := F) m).duties (cell c t) 0 = dutiesOf t := by
  show (if (0 : ℕ) = 0 ∧ (cell c t).1.2 = .tc then dutiesOf (slotOf (semOf t)) else ∅) = _
  rw [if_pos ⟨rfl, rfl⟩, slotOf_semOf]

/-- that no later round has any, -/
theorem Sc_later (g : GSem nD τ sig) : ∀ r, 1 ≤ r → (Sc (F := F) m).duties g r = ∅ := fun r hr => if_neg fun h => by omega

/-- each duty's amount, -/
theorem Sc_amount (d : Fin 3) : (Sc (F := F) m).amount (cell c t) 0 d = amt t := congrArg amt (slotOf_semOf t)

/-- and what it hands over. -/
theorem Sc_payload (d : Fin 3) : (Sc (F := F) m).payload (cell c t) 0 d = pay m c d t := congrArg (pay m c d) (slotOf_semOf t)

/-- The barrier waits for three signals. -/
theorem Sc_expect_bar : (Sc (F := F) m).expect (cell c .bar) 0 = 3 := by
  unfold Schedule.expect Schedule.amountOf
  rw [Sc_duties, Finset.sum_congr rfl fun d _ => Sc_amount m c .bar d]
  rfl

/-- The other semaphores have the one duty `0`. -/
theorem Sc_expect (h : dutiesOf t = {0}) : (Sc (F := F) m).expect (cell c t) 0 = amt t := by
  unfold Schedule.expect Schedule.amountOf
  rw [Sc_duties, h, Finset.sum_singleton, Sc_amount]

/-- The whole round of the barrier hands over the rows of the result of each device that is sent to. -/
theorem Sc_rest_bar : bigSep ((Sc (F := F) m).duties (cell c .bar) 0 \ ∅) (fun d => (Sc (F := F) m).payload (cell c .bar) 0 d)
    = bigSep Finset.univ fun s : Fin 3 => rows (peer c s) c := by
  rw [Finset.sdiff_empty, Sc_duties]
  exact bigSep_congr fun d _ => Sc_payload m c .bar d

/-- The whole round of another semaphore hands over what its one duty does. -/
theorem Sc_rest (h : dutiesOf t = {0}) : bigSep ((Sc (F := F) m).duties (cell c t) 0 \ ∅) (fun d => (Sc (F := F) m).payload (cell c t) 0 d)
    = pay m c 0 t := by
  rw [Finset.sdiff_empty, Sc_duties, h, bigSep_singleton, Sc_payload]

end Sched

/-! ## What each device owes, and in what order it may wait -/

/-- What device `c` owes for chunk `k`, on top of `O`: three receiving semaphores' amounts, the first to be paid last. -/
def due (c : Dev nD) (k : Fin 4) (O : CellTallies nD τ sig Unit) : CellTallies nD τ sig Unit :=
  ((O + tallyAt (cell (peer c 2) (.recv (2, k))) () NB) + tallyAt (cell (peer c 1) (.recv (1, k))) () NB)
    + tallyAt (cell (peer c 0) (.recv (0, k))) () NB

/-- What device `c` owes once past its signals, and before them. -/
def O₁ (c : Dev nD) : CellTallies nD τ sig Unit := due c 0 (due c 1 (due c 2 (due c 3 0)))
def O₀ (c : Dev nD) : CellTallies nD τ sig Unit :=
  ((O₁ c + tallyAt (cell (from_ c 1) .bar) () 1) + tallyAt (cell (from_ c 0) .bar) () 1) + tallyAt (cell (from_ c 2) .bar) () 1

def L (g : GSem nD τ sig) : Finset Unit := if g.1.2 = .tc then {()} else ∅

def lvOf : Slot → ℕ
  | .bar => 1
  | .recv _ => 2
  | _ => 0
/-- The level of a semaphore: the barrier below the receiving ones, the rest below both. -/
def lv (g : GSem nD τ sig) (_ : Unit) : ℕ := lvOf (slotOf g.2)

/-- Only the semaphores of the tensor core have a level, -/
theorem L_of_ne (g : GSem nD τ sig) (h : g.1.2 ≠ .tc) : L g = ∅ := if_neg h
/-- one each, -/
theorem L_tc (c : Dev nD) (sm : SemLoc sig) : L ((c : Thread nD τ), sm) = {()} := if_pos rfl
/-- namely that of the semaphore's slot. -/
theorem lv_cell (c : Dev nD) (t : Slot) : lv (cell c t) () = lvOf t := congrArg lvOf (slotOf_semOf t)

/-- Everything owed in `O` is owed to semaphores of level above `n`. -/
def Above (n : ℕ) (O : CellTallies nD τ sig Unit) : Prop := ∀ g u, 0 < O g u → ∃ (c : Dev nD) (t : Slot), g = cell c t ∧ n < lvOf t

/-- Nothing owed is above any level. -/
theorem Above.zero (n : ℕ) : Above n 0 := fun g u h => absurd h (Nat.lt_irrefl 0)

/-- One more debt above the level keeps all of them above it. -/
theorem Above.add {n : ℕ} {O : CellTallies nD τ sig Unit} (h : Above n O) (c : Dev nD) (t : Slot) (ht : n < lvOf t) (k : ℕ) :
    Above n (O + tallyAt (cell c t) () k) := fun g u hg => by
  rw [Pi.add_apply, Finsupp.add_apply, tallyAt_apply] at hg
  by_cases h' : g = cell c t ∧ u = ()
  · exact ⟨c, t, h'.1, ht⟩
  · rw [if_neg h', Nat.add_zero] at hg
    exact h g u hg

/-- So do a chunk's three, owed to receiving semaphores. -/
theorem Above.due {n : ℕ} (hn : n < 2) {O : CellTallies nD τ sig Unit} (h : Above n O) (c : Dev nD) (k : Fin 4) : Above n (due c k O) :=
  ((h.add _ (.recv (2, k)) hn _).add _ (.recv (1, k)) hn _).add _ (.recv (0, k)) hn _

/-- Past its signals a device owes only above the barrier. -/
theorem O₁_above {n : ℕ} (hn : n < 2) (c : Dev nD) : Above n (O₁ c) :=
  ((((Above.zero n).due hn c 3).due hn c 2).due hn c 1).due hn c 0

/-- Before them it owes only above the lowest level. -/
theorem O₀_above (c : Dev nD) : Above 0 (O₀ c) :=
  (((O₁_above (by decide) c).add _ .bar Nat.one_pos _).add _ .bar Nat.one_pos _).add _ .bar Nat.one_pos _

omit [FloatOps F] in
/-- A device may wait on a semaphore whose level is at most `n` while all it owes lies above `n`. -/
theorem mayWait {n : ℕ} {O : CellTallies nD τ sig Unit} (h : Above n O) (c : Dev nD) (t : Slot) (ht : lvOf t ≤ n) :
    (levAts L lv : sProp 𝕄) ⊢ MayWait (c : Thread nD τ) (semOf t) () O :=
  MayOwe.of_cut (L := L) (lev := lv) n (fun p hp => by rw [Finset.mem_singleton.mp hp, L_tc]; exact Finset.mem_singleton_self _)
    (fun g u hg => by obtain ⟨c', t', rfl, -⟩ := h g u hg; rw [L_tc]; exact Finset.mem_singleton_self _)
    (fun p hp => by rw [Finset.mem_singleton.mp hp]; exact (lv_cell c t).le.trans ht)
    (fun g u hg => by obtain ⟨c', t', rfl, h'⟩ := h g u hg; exact h'.trans_le (lv_cell c' t').ge)

end Cert.Exchange

end
-- ==== Proof.Steps.lean ====
/-
The steps of one device: a signal, a wait, the start of a chunk's load, the packing and sending of one band, the copying of
the device's own band; then a whole chunk, and the waits that end it.
-/
module

public import proofs.«01_k».proof.Proof.Protocol

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- What a program of device `c` ensures. -/
abbrev wpp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ) (K : Dev nD × Slot → ℕ)

/-! ## What every device knows -/

/-- The invariant of every semaphore, that its round is open, and the levels. -/
def records : sProp 𝕄 :=
  iprop((bigSep Finset.univ fun p : Dev nD × Slot => iprop(cellInv ER (Sc m) (K p) (cell p.1 p.2) ∗ reached ER (cell p.1 p.2) 0)) ∗ levAts L lv)

instance records_persistent : BI.Persistent (records m K) := by unfold records; infer_instance

/-- What the records say of device `c`'s slot `t`: -/
theorem records_at (c : Dev nD) (t : Slot) : records m K ⊢ iprop(cellInv ER (Sc m) (K (c, t)) (cell c t) ∗ reached ER (cell c t) 0) := by
  have h : (bigSep Finset.univ fun p : Dev nD × Slot => iprop(cellInv ER (Sc m) (K p) (cell p.1 p.2) ∗ reached ER (cell p.1 p.2) 0) : sProp 𝕄)
      ⊢ iprop(cellInv ER (Sc m) (K (c, t)) (cell c t) ∗ reached ER (cell c t) 0) := bigSep_elim (Finset.mem_univ ((c, t) : Dev nD × Slot))
  unfold records
  iintro ⟨H, -⟩
  iapply h $$ H

/-- its invariant, -/
theorem records_inv (c : Dev nD) (t : Slot) : records m K ⊢ cellInv ER (Sc m) (K (c, t)) (cell c t) := by
  refine (records_at m K c t).trans ?_
  iintro ⟨H, -⟩; iexact H
/-- that its first round is reached, -/
theorem records_reached (c : Dev nD) (t : Slot) : records m K ⊢ reached ER (cell c t) 0 := by
  refine (records_at m K c t).trans ?_
  iintro ⟨-, H⟩; iexact H
/-- and the levels. -/
theorem records_lev : records m K ⊢ levAts L lv := by
  unfold records
  iintro ⟨-, H⟩; iexact H

/-! ## What a device holds -/

/-- Device `c` owes `O`, whatever waits it has recorded. -/
def ow (c : Dev nD) (O : CellTallies nD τ sig Unit) : sProp 𝕄 := iprop(∃ W, owes (c : Thread nD τ) O W)
/-- Device `c`'s semaphore at slot `t`: before its round, -/
def at0 (c : Dev nD) (t : Slot) : sProp 𝕄 := atPos ER (cell c t) 0 ∅ 0
/-- and after it. -/
def at1 (c : Dev nD) (t : Slot) : sProp 𝕄 := atPos ER (cell c t) (0 + 1) ∅ 0
/-- The right to pay duty `d` of slot `t` of device `c`, -/
def tok (c : Dev nD) (t : Slot) (d : Fin 3) : sProp 𝕄 := dutyTok ER (cell c t) 0 d
/-- and the right to collect `n` from it. -/
def due_ (c : Dev nD) (t : Slot) (n : ℕ) : sProp 𝕄 := cred (tallyAt (cell c t) () n)

abbrev tri (P : Fin 3 → sProp 𝕄) : sProp 𝕄 := iprop(P 0 ∗ P 1 ∗ P 2)
abbrev four (P : Fin 4 → sProp 𝕄) : sProp 𝕄 := iprop(P 0 ∗ P 1 ∗ P 2 ∗ P 3)

omit [FloatOps F] in
/-- A resource for every slot is three of them, -/
theorem bigSep_tri (P : Fin 3 → sProp 𝕄) : bigSep Finset.univ P = tri P := by
  rw [bigSep_univ_eq_bigSepL [0, 1, 2] (by decide) (by decide), bigSepL_cons_cons, bigSepL_cons_cons, bigSepL_singleton]
  rfl
omit [FloatOps F] in
/-- and one for every chunk is four. -/
theorem bigSep_four (P : Fin 4 → sProp 𝕄) : bigSep Finset.univ P = four P := by
  rw [bigSep_univ_eq_bigSepL [0, 1, 2, 3] (by decide) (by decide), bigSepL_cons_cons, bigSepL_cons_cons, bigSepL_cons_cons, bigSepL_singleton]
  rfl

/-! ## One step -/

section Step
variable {α : Type} {kk : PUnit → Prog (TpuEff nD τ sig (Elt F) Λ₀ .tc) α}

/-- A signal to the barrier of the device that sends through slot `s`: it hands that device the rows it will fill. -/
theorem step_signal {Q : α → sProp 𝕄} (c n : Dev nD) (s : Fin 3) (hn : n = from_ c s) (O : CellTallies nD τ sig Unit) {k : ℕ} (hk : k = 1) :
    iprop(records m K ∗ tok (from_ c s) .bar s ∗ rows c (from_ c s) ∗ ow c (O + tallyAt (cell (from_ c s) .bar) () 1))
      ⊢ iprop((ow c O -∗ wpp c (kk ⟨⟩) Q) -∗ wpp c (.op (.semSignal (n : Thread nD τ) barS k) kk) Q) := by
  subst hn hk
  unfold tok ow
  iintro ⟨#HR, Ht, Hr, ⟨%W, HO⟩⟩ Hk
  iapply (Rounds.wp_signal 𝒱₀ ER (Sc m) (c : Thread nD τ) none (dst := (from_ c s : Thread nD τ)) (κ := K (from_ c s, .bar)) (d := s)
      (by rw [Sc_duties m (from_ c s) .bar]; exact Finset.mem_univ _) ((Sc_amount m (from_ c s) .bar s).trans (by decide)) () O rfl) $$ [HO Ht Hr]
  · isplitr; · iapply (records_inv m K (from_ c s) .bar) $$ HR
    isplitl [HO]; · iexact HO
    isplitl [Ht]; · iexact Ht
    isplitl [Hr]
    · rw [Sc_payload m (from_ c s) .bar s]
      unfold pay
      rw [peer_from]
      iexact Hr
    iapply (records_reached m K (from_ c s) .bar) $$ HR
  iintro HO
  iapply Hk
  iexists W; iexact HO

/-- The wait at the barrier: it receives, from each device sent to, the rows there that this device fills. -/
theorem step_bar {Q : α → sProp 𝕄} (c : Dev nD) {O : CellTallies nD τ sig Unit} (hO : Above 1 O) {k : ℕ} (hk : k = 3) :
    iprop(records m K ∗ due_ c .bar 3 ∗ at0 c .bar ∗ ow c O)
      ⊢ iprop(((tri (fun s => rows (peer c s) c) ∗ at1 c .bar ∗ ow c O) -∗ wpp c (kk ⟨⟩) Q) -∗ wpp c (.op (.semWait barS k) kk) Q) := by
  subst hk
  unfold due_ at0 at1 ow
  iintro ⟨#HR, Hc, Ha, ⟨%W, HO⟩⟩ Hk
  iapply (Rounds.wp_wait_rest_token 𝒱₀ ER (Sc m) (c : Thread nD τ) none (κ := K (c, .bar))
      (wpE_semWait_eq 𝒱₀ (c : Thread nD τ) none Set.univ) (Set.mem_univ _) () (O := O) (W := W) (R := 0) (m := 0) (T := ∅)
      (by rw [Sc_expect_bar m c])) $$ [Hc HO Ha]
  · isplitr; · iapply (records_inv m K c .bar) $$ HR
    isplitl [Hc]; · iexact Hc
    isplitl [HO]; · iexact HO
    isplitr; · iapply (mayWait hO c .bar (by decide)); iapply (records_lev m K) $$ HR
    iexact Ha
  iintro ⟨HO, Ha, -, Hp⟩
  iapply Hk
  isplitl [Hp]
  · iapply (Entails.of_eq ((Sc_rest_bar m c).trans (bigSep_tri _))) $$ Hp
  isplitl [Ha]; · iexact Ha
  iexists _; iexact HO

/-- A wait on one of the other semaphores: it receives what the one duty of the semaphore hands over. -/
theorem step_wait {Q : α → sProp 𝕄} (c : Dev nD) (t : Slot) (ht : dutiesOf t = {0}) {n : ℕ} (hl : lvOf t ≤ n) {O : CellTallies nD τ sig Unit} (hO : Above n O)
    {w : TpuEff nD τ sig (Elt F) Λ₀ .tc PUnit} {k : ℕ}
    (hw : ∀ P : PUnit → sProp 𝕄, wpE (defs₀ (F := F)) 𝒱₀ (c : Thread nD τ) none Set.univ w P = waitSpec (c : Thread nD τ) Set.univ (semOf t) k P)
    (hk : k = amt t) :
    iprop(records m K ∗ due_ c t (amt t) ∗ at0 c t ∗ ow c O)
      ⊢ iprop(((pay m c 0 t ∗ at1 c t ∗ ow c O) -∗ wpp c (kk ⟨⟩) Q) -∗ wpp c (.op w kk) Q) := by
  subst hk
  unfold due_ at0 at1 ow
  iintro ⟨#HR, Hc, Ha, ⟨%W, HO⟩⟩ Hk
  iapply (Rounds.wp_wait_rest_token 𝒱₀ ER (Sc m) (c : Thread nD τ) none (κ := K (c, t))
      hw (Set.mem_univ _) () (O := O) (W := W) (R := 0) (m := 0) (T := ∅)
      (by rw [Sc_expect m c t ht, Nat.zero_add])) $$ [Hc HO Ha]
  · isplitr; · iapply (records_inv m K c t) $$ HR
    isplitl [Hc]; · iexact Hc
    isplitl [HO]; · iexact HO
    isplitr; · iapply (mayWait hO c t hl); iapply (records_lev m K) $$ HR
    iexact Ha
  iintro ⟨HO, Ha, -, Hp⟩
  iapply Hk
  isplitl [Hp]
  · iapply (Entails.of_eq (Sc_rest m c t ht)) $$ Hp
  isplitl [Ha]; · iexact Ha
  iexists _; iexact HO

/-- What the load of chunk `k` starts from. -/
def ldIn (c : Dev nD) (k : Fin 4) : sProp 𝕄 := iprop(xP m c k ∗ (∃ f, stP c k f) ∗ tok c (.load k) 0)

/-- The load of chunk `k` starts. -/
theorem step_load {Q : α → sProp 𝕄} (c : Dev nD) (k : Fin 4) {hsrc : (xV k).view.WordExact} {hdst : (stageV k).view.WordExact}
    {hsem : DmaTarget.Typed (nD := nD) (τ := τ) (p := Proc.tc) .hbm (.dma (loadS k)) (.here (stageV k))} :
    iprop(records m K ∗ ldIn m c k)
      ⊢ iprop((due_ c (.load k) NL -∗ wpp c (kk ⟨⟩) Q)
          -∗ wpp c (.op (.enqueueDma (xV k) (.here (stageV k)) (.dma (loadS k)) hsrc hdst hsem) kk) Q) := by
  unfold ldIn tok due_ xP
  iintro ⟨#HR, Hx, ⟨%f, Hs⟩, Ht⟩ Hk
  unfold stP
  iapply (Rounds.wp_copy_pointsTo 𝒱₀ ER (Sc m) (c : Thread nD τ) none (dst := stageV k) (sem := .dma (loadS k)) (κ := K (c, .load k)) (r := 0) (d := 0) (q := fullShare) (fd := f)
      (by rw [Sc_duties m c (.load k)]; exact Finset.mem_singleton_self _) () NL (NL_eq k) (Sc_amount m c (.load k) 0)
      (by
        rw [Sc_payload m c (.load k) 0]
        unfold pay stP xP
        refine sep_mono_left (Entails.of_eq (pointsTo_congr ?_))
        exact write_eq_on (stageV k).view f (read_x m c k))) $$ [Hx Hs Ht]
  · isplitr; · iapply (records_inv m K c (.load k)) $$ HR
    isplitl [Hx]; · iexact Hx
    isplitl [Hs]; · iexact Hs
    isplitl [Ht]; · iexact Ht
    iapply (records_reached m K c (.load k)) $$ HR
  iexact Hk

/-! ## A band packed and sent -/

omit [FloatOps F] in
/-- A band of chunk `k` lies in that chunk of the staging buffer. -/
theorem band_sub (k : Fin 4) {j : ℕ} {off : Fin 3 → ℕ} (hoff : off = ![k.val, 0, j]) (inb : ∀ a, off a + S1x256x512.size a ≤ S4x256x2048.size a) :
    (stageM.access (Rect.unit (s := S4x256x2048) off S1x256x512.size inb)).set ⊆ (stageV k).view.set := fun i hi => by
  rw [View.set_slice_whole, Rect.mem_set_unit] at hi
  refine mem_stageV.mpr ?_
  have h := hi 0
  rw [hoff] at h
  have h1 : k.val ≤ (i 0).val := h.1
  have h2 : (i 0).val < k.val + 1 := h.2
  omega

/-- What packing and sending slot `s` of chunk `k` starts from, beside the staged chunk. -/
def sendIn (c : Dev nD) (s : Fin 3) (k : Fin 4) : sProp 𝕄 :=
  iprop((∃ f, coP c s k f) ∗ tok c (.send (s, k)) 0 ∗ tok (peer c s) (.recv (s, k)) 0)

/-- The outgoing copy of slot `s` of chunk `k`: it pays the device's sending semaphore and the other device's receiving one. -/
theorem step_send {Q : α → sProp 𝕄} (c n : Dev nD) (s : Fin 3) (k : Fin 4) (hn : n = peer c s) (O : CellTallies nD τ sig Unit)
    {hsc : (outV c k : Memref sig (Dev.tc n : Thread nD τ).2.kind .hbm S256x512 .bf16).view.ref.isScScratch = false}
    {hsrc : (commV s k).view.WordExact} {hdst : (outV c k).view.WordExact}
    {hsem : DmaTarget.Typed .vmem (.dma (recvS s k)) (.remote (Dev.tc n : Thread nD τ) (outV c k) (.dma (sendS s k)) hsc)} :
    iprop(records m K ∗ coP c s k (commF m c) ∗ (∃ f, ouP (peer c s) c k f) ∗ tok c (.send (s, k)) 0 ∗ tok (peer c s) (.recv (s, k)) 0
        ∗ ow c (O + tallyAt (cell (peer c s) (.recv (s, k))) () NB))
      ⊢ iprop(((due_ c (.send (s, k)) NB ∗ ow c O) -∗ wpp c (kk ⟨⟩) Q)
          -∗ wpp c (.op (.enqueueDma (commV s k) (.remote (Dev.tc n : Thread nD τ) (outV c k) (.dma (sendS s k)) hsc) (.dma (recvS s k)) hsrc hdst hsem) kk) Q) := by
  subst hn
  unfold tok due_ ow
  iintro ⟨#HR, Hc, ⟨%f, Ho⟩, Ht, Ht', ⟨%W, HO⟩⟩ Hk
  unfold coP ouP
  iapply (Rounds.wp_send_pointsTo 𝒱₀ ER (Sc m) (c : Thread nD τ) none (c' := (peer c s : Thread nD τ)) (src := commV s k) (dst := outV c k)
      (sS := .dma (sendS s k)) (sem := .dma (recvS s k)) (κ₁ := K (c, .send (s, k))) (κ₂ := K (peer c s, .recv (s, k)))
      (r₁ := 0) (r₂ := 0) (d₁ := 0) (d₂ := 0) (q := fullShare) (fs := commF m c) (fd := f)
      (by rw [Sc_duties m c (.send (s, k))]; exact Finset.mem_singleton_self _)
      (by rw [Sc_duties m (peer c s) (.recv (s, k))]; exact Finset.mem_singleton_self _)
      () () NB (NB_out c k) (Sc_amount m c (.send (s, k)) 0) (Sc_amount m (peer c s) (.recv (s, k)) 0) O rfl (W := W)
      (by rw [Sc_payload m c (.send (s, k)) 0]; exact BI.Entails.refl _)
      (by
        rw [Sc_payload m (peer c s) (.recv (s, k)) 0]
        show _ ⊢ ouP (peer c s) (from_ (peer c s) s) k (outF m (peer c s))
        rw [from_peer]
        unfold ouP
        exact Entails.of_eq (pointsTo_congr (write_eq_on (outV c k).view f (read_comm m c s k))))) $$ [Hc Ho Ht Ht' HO]
  · isplitr; · iapply (records_inv m K c (.send (s, k))) $$ HR
    isplitr; · iapply (records_inv m K (peer c s) (.recv (s, k))) $$ HR
    isplitl [Hc]; · iexact Hc
    isplitl [Ho]; · iexact Ho
    isplitl [HO]; · iexact HO
    isplitl [Ht]; · iexact Ht
    isplitr; · iapply (records_reached m K c (.send (s, k))) $$ HR
    isplitl [Ht']; · iexact Ht'
    iapply (records_reached m K (peer c s) (.recv (s, k))) $$ HR
  iintro ⟨Hc, HO⟩
  iapply Hk
  isplitl [Hc]; · iexact Hc
  iexists W; iexact HO

/-- A band of the staged chunk is rounded into slot `s` of the outgoing buffer and sent. -/
theorem step_pack {Q : α → sProp 𝕄} (c n : Dev nD) (s : Fin 3) (k : Fin 4) (hn : n = peer c s) (O : CellTallies nD τ sig Unit)
    (off : Fin 3 → ℕ) (hoff : off = ![k.val, 0, 512 * (peer c s).val]) (inb : ∀ a, off a + S1x256x512.size a ≤ S4x256x2048.size a)
    {hl : stageM.view.LoadsAt (Rect.unit (s := S4x256x2048) off S1x256x512.size inb).toLoadRect}
    {hl' : commM.view.LoadsAt (commR s k).toLoadRect} {hx : (commM.access (commR s k)).Stores Finset.univ}
    {hm : (Finset.univ : Finset (commR s k).shape.Idx) = Finset.univ ∨ ∀ a, (commR s k).stride a = 1}
    {hsc : (outV c k : Memref sig (Dev.tc n : Thread nD τ).2.kind .hbm S256x512 .bf16).view.ref.isScScratch = false}
    {hsrc : (commV s k).view.WordExact} {hdst : (outV c k).view.WordExact}
    {hsem : DmaTarget.Typed .vmem (.dma (recvS s k)) (.remote (Dev.tc n : Thread nD τ) (outV c k) (.dma (sendS s k)) hsc)} :
    iprop(records m K ∗ stP c k (stageF m c) ∗ sendIn c s k ∗ (∃ f, ouP (peer c s) c k f) ∗ ow c (O + tallyAt (cell (peer c s) (.recv (s, k))) () NB))
      ⊢ iprop(((stP c k (stageF m c) ∗ due_ c (.send (s, k)) NB ∗ ow c O) -∗ wpp c (kk ⟨⟩) Q)
          -∗ wpp c (.op (.load stageM (Rect.unit (s := S4x256x2048) off S1x256x512.size inb).toLoadRect hl) fun v =>
              .op (.load commM (commR s k).toLoadRect hl') fun _ =>
              .op (.store commM (commR s k) (k0_pay1 v) Finset.univ hx hm) fun _ =>
              .op (.enqueueDma (commV s k) (.remote (Dev.tc n : Thread nD τ) (outV c k) (.dma (sendS s k)) hsc) (.dma (recvS s k)) hsrc hdst hsem) kk) Q) := by
  have hset : (commM.access (commR s k)).set = (commV s k).view.set := (View.set_slice_whole _ _).trans (set_commV s k).symm
  unfold sendIn
  iintro ⟨#HR, Hs, ⟨⟨%f, Hc⟩, Ht, Ht'⟩, Ho, HO⟩ Hk
  unfold stP coP
  iapply (wp_load_rect 𝒱₀ (c : Thread nD τ) none Set.univ (m := stageM) (r := Rect.unit (s := S4x256x2048) off S1x256x512.size inb)
    (band_sub k hoff inb)) $$ Hs
  iintro Hs
  iapply (wp_load_rect 𝒱₀ (c : Thread nD τ) none Set.univ (m := commM) (r := commR s k) hset.subset) $$ Hc
  iintro Hc
  iapply (wp_store 𝒱₀ (c : Thread nD τ) none Set.univ (m := commM) (r := commR s k) (Mk := Finset.univ) hset.subset) $$ Hc
  iintro Hc
  ihave Hc' := (Entails.of_eq (pointsTo_congr (g := commF m c) (hset ▸ write_eq_on (commM.access (commR s k)) f
      (pay_comm m c s k _ fun x => read_stage m c k (peer c s).val off hoff inb x).symm))) $$ Hc
  iapply (step_send m K c n s k hn O) $$ [Hc' Ho Ht Ht' HO]
  · isplitr; · iexact HR
    isplitl [Hc']; · unfold coP; iexact Hc'
    isplitl [Ho]; · iexact Ho
    isplitl [Ht]; · iexact Ht
    isplitl [Ht']; · iexact Ht'
    iexact HO
  iintro ⟨Hd, HO⟩
  iapply Hk
  isplitl [Hs]; · iexact Hs
  isplitl [Hd] <;> iassumption

/-! ## The device's own band -/

def copyIn (c : Dev nD) (k : Fin 4) : sProp 𝕄 := iprop((∃ f, loP c k f) ∗ (∃ f, ouP c c k f) ∗ tok c (.copy k) 0)

/-- The device's own band of the staged chunk is rounded and copied into its own result. -/
theorem step_copy {Q : α → sProp 𝕄} (c : Dev nD) (k : Fin 4)
    (off : Fin 3 → ℕ) (hoff : off = ![k.val, 0, 512 * c.val]) (inb : ∀ a, off a + S1x256x512.size a ≤ S4x256x2048.size a)
    {hl : stageM.view.LoadsAt (Rect.unit (s := S4x256x2048) off S1x256x512.size inb).toLoadRect}
    {hl' : locM.view.LoadsAt (locR k).toLoadRect} {hx : (locM.access (locR k)).Stores Finset.univ}
    {hm : (Finset.univ : Finset (locR k).shape.Idx) = Finset.univ ∨ ∀ a, (locR k).stride a = 1}
    {hsrc : (locV k).view.WordExact} {hdst : (outV c k).view.WordExact}
    {hsem : DmaTarget.Typed (nD := nD) (τ := τ) (p := Proc.tc) .vmem (.dma (copyS k)) (.here (outV c k))} :
    iprop(records m K ∗ stP c k (stageF m c) ∗ copyIn c k)
      ⊢ iprop(((stP c k (stageF m c) ∗ due_ c (.copy k) NB) -∗ wpp c (kk ⟨⟩) Q)
          -∗ wpp c (.op (.load stageM (Rect.unit (s := S4x256x2048) off S1x256x512.size inb).toLoadRect hl) fun v =>
              .op (.load locM (locR k).toLoadRect hl') fun _ =>
              .op (.store locM (locR k) (k0_pay4 v) Finset.univ hx hm) fun _ =>
              .op (.enqueueDma (locV k) (.here (outV c k)) (.dma (copyS k)) hsrc hdst hsem) kk) Q) := by
  have hset : (locM.access (locR k)).set = (locV k).view.set := (View.set_slice_whole _ _).trans (set_locV k).symm
  unfold copyIn tok due_
  iintro ⟨#HR, Hs, ⟨%f, Hl⟩, ⟨%g, Ho⟩, Ht⟩ Hk
  unfold stP loP ouP
  iapply (wp_load_rect 𝒱₀ (c : Thread nD τ) none Set.univ (m := stageM) (r := Rect.unit (s := S4x256x2048) off S1x256x512.size inb)
    (band_sub k hoff inb)) $$ Hs
  iintro Hs
  iapply (wp_load_rect 𝒱₀ (c : Thread nD τ) none Set.univ (m := locM) (r := locR k) hset.subset) $$ Hl
  iintro Hl
  iapply (wp_store 𝒱₀ (c : Thread nD τ) none Set.univ (m := locM) (r := locR k) (Mk := Finset.univ) hset.subset) $$ Hl
  iintro Hl
  ihave Hl' := (Entails.of_eq (pointsTo_congr (g := locF m c) (hset ▸ write_eq_on (locM.access (locR k)) f
      (pay_loc m c k _ fun x => read_stage m c k c.val off hoff inb x).symm))) $$ Hl
  iapply (Rounds.wp_copy_pointsTo 𝒱₀ ER (Sc m) (c : Thread nD τ) none (src := locV k) (dst := outV c k) (sem := .dma (copyS k)) (κ := K (c, .copy k))
      (r := 0) (d := 0) (q := fullShare) (fd := g)
      (by rw [Sc_duties m c (.copy k)]; exact Finset.mem_singleton_self _) () NB (NB_out c k) (Sc_amount m c (.copy k) 0)
      (by
        rw [Sc_payload m c (.copy k) 0]
        unfold pay ouP loP
        exact sep_mono_left (Entails.of_eq (pointsTo_congr (write_eq_on (outV c k).view g (read_loc m c k)))))) $$ [Hl' Ho Ht]
  · isplitr; · iapply (records_inv m K c (.copy k)) $$ HR
    isplitl [Hl']; · iexact Hl'
    isplitl [Ho]; · iexact Ho
    isplitl [Ht]; · iexact Ht
    iapply (records_reached m K c (.copy k)) $$ HR
  iintro Hd
  iapply Hk
  isplitl [Hs]; · iexact Hs
  iexact Hd

/-! ## A chunk -/

/-- What chunk `k` starts from, its load under way; -/
def chIn (c : Dev nD) (k : Fin 4) : sProp 𝕄 :=
  iprop(due_ c (.load k) NL ∗ at0 c (.load k) ∗ tri (fun s => sendIn c s k) ∗ copyIn c k)
/-- what it leaves, its copies under way, for the waits that end it; -/
def chMid (c : Dev nD) (k : Fin 4) : sProp 𝕄 := iprop(tri (fun s => due_ c (.send (s, k)) NB) ∗ due_ c (.copy k) NB)
/-- and for the end. -/
def chLoad (c : Dev nD) (k : Fin 4) : sProp 𝕄 := iprop(at1 c (.load k) ∗ stP c k (stageF m c) ∗ xP m c k)

/-- A chunk: its load is awaited, three bands are packed and sent, the device's own is copied. -/
theorem step_chunk {Q : α → sProp 𝕄} (c n₀ n₁ n₂ : Dev nD) (k : Fin 4) (hn₀ : n₀ = peer c 0) (hn₁ : n₁ = peer c 1) (hn₂ : n₂ = peer c 2)
    {O : CellTallies nD τ sig Unit} (hO : Above 0 O)
    (off₀ off₁ off₂ off₃ : Fin 3 → ℕ) (h₀ : off₀ = ![k.val, 0, 512 * (peer c 0).val]) (h₁ : off₁ = ![k.val, 0, 512 * (peer c 1).val])
    (h₂ : off₂ = ![k.val, 0, 512 * (peer c 2).val]) (h₃ : off₃ = ![k.val, 0, 512 * c.val])
    (inb₀ : ∀ a, off₀ a + S1x256x512.size a ≤ S4x256x2048.size a) (inb₁ : ∀ a, off₁ a + S1x256x512.size a ≤ S4x256x2048.size a)
    (inb₂ : ∀ a, off₂ a + S1x256x512.size a ≤ S4x256x2048.size a) (inb₃ : ∀ a, off₃ a + S1x256x512.size a ≤ S4x256x2048.size a)
    {a₁ a₂ b₁ b₂ b₃ b₄ b₅ b₆ b₇ b₈ c₁ c₂ c₃ c₄ c₅ c₆ c₇ c₈ d₁ d₂ d₃ d₄ d₅ d₆ d₇ d₈ e₁ e₂ e₃ e₄ e₅ e₆ e₇} :
    iprop(records m K ∗ chIn c k ∗ tri (fun s => iprop(∃ f, ouP (peer c s) c k f)) ∗ ow c (due c k O))
      ⊢ iprop(((chMid c k ∗ chLoad m c k ∗ ow c O) -∗ wpp c (kk ⟨⟩) Q) -∗ wpp c (
          .op (.waitDma2 (loadS k) (xV k) (stageV k) a₁ a₂) fun _ =>
          .op (.load stageM (Rect.unit (s := S4x256x2048) off₀ S1x256x512.size inb₀).toLoadRect b₁) fun v =>
          .op (.load commM (commR 0 k).toLoadRect b₂) fun _ =>
          .op (.store commM (commR 0 k) (k0_pay1 v) Finset.univ b₃ b₄) fun _ =>
          .op (.enqueueDma (commV 0 k) (.remote (Dev.tc n₀ : Thread nD τ) (outV c k) (.dma (sendS 0 k)) b₅) (.dma (recvS 0 k)) b₆ b₇ b₈) fun _ =>
          .op (.load stageM (Rect.unit (s := S4x256x2048) off₁ S1x256x512.size inb₁).toLoadRect c₁) fun v =>
          .op (.load commM (commR 1 k).toLoadRect c₂) fun _ =>
          .op (.store commM (commR 1 k) (k0_pay1 v) Finset.univ c₃ c₄) fun _ =>
          .op (.enqueueDma (commV 1 k) (.remote (Dev.tc n₁ : Thread nD τ) (outV c k) (.dma (sendS 1 k)) c₅) (.dma (recvS 1 k)) c₆ c₇ c₈) fun _ =>
          .op (.load stageM (Rect.unit (s := S4x256x2048) off₂ S1x256x512.size inb₂).toLoadRect d₁) fun v =>
          .op (.load commM (commR 2 k).toLoadRect d₂) fun _ =>
          .op (.store commM (commR 2 k) (k0_pay1 v) Finset.univ d₃ d₄) fun _ =>
          .op (.enqueueDma (commV 2 k) (.remote (Dev.tc n₂ : Thread nD τ) (outV c k) (.dma (sendS 2 k)) d₅) (.dma (recvS 2 k)) d₆ d₇ d₈) fun _ =>
          .op (.load stageM (Rect.unit (s := S4x256x2048) off₃ S1x256x512.size inb₃).toLoadRect e₁) fun v =>
          .op (.load locM (locR k).toLoadRect e₂) fun _ =>
          .op (.store locM (locR k) (k0_pay4 v) Finset.univ e₃ e₄) fun _ =>
          .op (.enqueueDma (locV k) (.here (outV c k)) (.dma (copyS k)) e₅ e₆ e₇) kk) Q) := by
  unfold chIn chMid chLoad
  iintro ⟨#HR, ⟨Hd, Ha, ⟨H0, H1, H2⟩, H3⟩, ⟨G0, G1, G2⟩, HO⟩ Hk
  iapply (step_wait m K c (.load k) rfl (le_refl 0) (O := due c k O) (hO.due (by decide) c k)
      (fun P => wpE_waitDma2_eq 𝒱₀ (c : Thread nD τ) none Set.univ P) (NL_eq k)) $$ [Hd Ha HO]
  · isplitr; · iexact HR
    isplitl [Hd]; · iexact Hd
    isplitl [Ha] <;> iassumption
  unfold pay
  iintro ⟨⟨Hs, Hx⟩, Ha, HO⟩
  unfold due
  iapply (step_pack m K c n₀ 0 k hn₀ _ off₀ h₀ inb₀) $$ [Hs H0 G0 HO]
  · isplitr; · iexact HR
    isplitl [Hs]; · iexact Hs
    isplitl [H0]; · iexact H0
    isplitl [G0] <;> iassumption
  iintro ⟨Hs, D0, HO⟩
  iapply (step_pack m K c n₁ 1 k hn₁ _ off₁ h₁ inb₁) $$ [Hs H1 G1 HO]
  · isplitr; · iexact HR
    isplitl [Hs]; · iexact Hs
    isplitl [H1]; · iexact H1
    isplitl [G1] <;> iassumption
  iintro ⟨Hs, D1, HO⟩
  iapply (step_pack m K c n₂ 2 k hn₂ _ off₂ h₂ inb₂) $$ [Hs H2 G2 HO]
  · isplitr; · iexact HR
    isplitl [Hs]; · iexact Hs
    isplitl [H2]; · iexact H2
    isplitl [G2] <;> iassumption
  iintro ⟨Hs, D2, HO⟩
  iapply (step_copy m K c k off₃ h₃ inb₃) $$ [Hs H3]
  · isplitr; · iexact HR
    isplitl [Hs] <;> iassumption
  iintro ⟨Hs, D3⟩
  iapply Hk
  isplitl [D0 D1 D2 D3]
  · isplitl [D0 D1 D2]
    · isplitl [D0]; · iexact D0
      isplitl [D1] <;> iassumption
    iexact D3
  isplitr [HO]
  · isplitl [Ha]; · iexact Ha
    isplitl [Hs] <;> iassumption
  iexact HO

/-! ## The waits that end a chunk -/

/-- What the closing waits of slot `s` of chunk `k` start from, and what they leave. -/
def finIn (c : Dev nD) (s : Fin 3) (k : Fin 4) : sProp 𝕄 :=
  iprop(at0 c (.send (s, k)) ∗ at0 c (.recv (s, k)) ∗ due_ c (.recv (s, k)) NB)
def finOut (c : Dev nD) (s : Fin 3) (k : Fin 4) : sProp 𝕄 :=
  iprop((coP c s k (commF m c) ∗ at1 c (.send (s, k))) ∗ (ouP c (from_ c s) k (outF m c) ∗ at1 c (.recv (s, k))))

/-- The outgoing copy of slot `s` of chunk `k` is awaited, then the incoming one. -/
theorem step_fin {Q : α → sProp 𝕄} (c : Dev nD) (s : Fin 3) (k : Fin 4) {a₁ a₂ b₁ b₂} :
    iprop(records m K ∗ due_ c (.send (s, k)) NB ∗ finIn c s k ∗ ow c 0)
      ⊢ iprop(((finOut m c s k ∗ ow c 0) -∗ wpp c (kk ⟨⟩) Q) -∗ wpp c (
          .op (.waitDma2 (sendS s k) (outV c k) (commV s k) a₁ a₂) fun _ =>
          .op (.waitDma2 (recvS s k) (commV s k) (outV c k) b₁ b₂) kk) Q) := by
  unfold finIn finOut
  iintro ⟨#HR, Hd, ⟨Ha, Hb, He⟩, HO⟩ Hk
  iapply (step_wait m K c (.send (s, k)) rfl (le_refl 0) (O := 0) (Above.zero 0)
      (fun P => wpE_waitDma2_eq 𝒱₀ (c : Thread nD τ) none Set.univ P) (NB_comm s k)) $$ [Hd Ha HO]
  · isplitr; · iexact HR
    isplitl [Hd]; · iexact Hd
    isplitl [Ha] <;> iassumption
  unfold pay
  iintro ⟨Hc, Ha, HO⟩
  iapply (step_wait m K c (.recv (s, k)) rfl (le_refl 2) (O := 0) (Above.zero 2)
      (fun P => wpE_waitDma2_eq 𝒱₀ (c : Thread nD τ) none Set.univ P) (NB_out c k)) $$ [He Hb HO]
  · isplitr; · iexact HR
    isplitl [He]; · iexact He
    isplitl [Hb] <;> iassumption
  unfold pay
  iintro ⟨Ho, Hb, HO⟩
  iapply Hk
  isplitr [HO]
  · isplitl [Hc Ha]
    · isplitl [Hc]; · iexact Hc
      iexact Ha
    · isplitl [Ho]; · iexact Ho
      iexact Hb
  iexact HO

/-- What the device's own copy leaves. -/
def copyOut (c : Dev nD) (k : Fin 4) : sProp 𝕄 := iprop((ouP c c k (outF m c) ∗ loP c k (locF m c)) ∗ at1 c (.copy k))

/-- The closing waits of chunk `k`. -/
theorem step_close {Q : α → sProp 𝕄} (c : Dev nD) (k : Fin 4) {a₁ a₂ a₃ a₄ b₁ b₂ b₃ b₄ c₁ c₂ c₃ c₄ d₁ d₂} :
    iprop(records m K ∗ chMid c k ∗ tri (fun s => finIn c s k) ∗ at0 c (.copy k) ∗ ow c 0)
      ⊢ iprop(((tri (fun s => finOut m c s k) ∗ copyOut m c k ∗ ow c 0) -∗ wpp c (kk ⟨⟩) Q) -∗ wpp c (
          .op (.waitDma2 (sendS 0 k) (outV c k) (commV 0 k) a₁ a₂) fun _ =>
          .op (.waitDma2 (recvS 0 k) (commV 0 k) (outV c k) a₃ a₄) fun _ =>
          .op (.waitDma2 (sendS 1 k) (outV c k) (commV 1 k) b₁ b₂) fun _ =>
          .op (.waitDma2 (recvS 1 k) (commV 1 k) (outV c k) b₃ b₄) fun _ =>
          .op (.waitDma2 (sendS 2 k) (outV c k) (commV 2 k) c₁ c₂) fun _ =>
          .op (.waitDma2 (recvS 2 k) (commV 2 k) (outV c k) c₃ c₄) fun _ =>
          .op (.waitDma2 (copyS k) (locV k) (outV c k) d₁ d₂) kk) Q) := by
  unfold chMid copyOut
  iintro ⟨#HR, ⟨⟨D0, D1, D2⟩, D3⟩, ⟨F0, F1, F2⟩, Ha, HO⟩ Hk
  iapply (step_fin m K c 0 k) $$ [D0 F0 HO]
  · isplitr; · iexact HR
    isplitl [D0]; · iexact D0
    isplitl [F0] <;> iassumption
  iintro ⟨E0, HO⟩
  iapply (step_fin m K c 1 k) $$ [D1 F1 HO]
  · isplitr; · iexact HR
    isplitl [D1]; · iexact D1
    isplitl [F1] <;> iassumption
  iintro ⟨E1, HO⟩
  iapply (step_fin m K c 2 k) $$ [D2 F2 HO]
  · isplitr; · iexact HR
    isplitl [D2]; · iexact D2
    isplitl [F2] <;> iassumption
  iintro ⟨E2, HO⟩
  iapply (step_wait m K c (.copy k) rfl (le_refl 0) (O := 0) (Above.zero 0)
      (fun P => wpE_waitDma2_eq 𝒱₀ (c : Thread nD τ) none Set.univ P) (NB_out c k)) $$ [D3 Ha HO]
  · isplitr; · iexact HR
    isplitl [D3]; · iexact D3
    isplitl [Ha] <;> iassumption
  unfold pay
  iintro ⟨Hp, Ha, HO⟩
  iapply Hk
  isplitl [E0 E1 E2]
  · isplitl [E0]; · iexact E0
    isplitl [E1] <;> iassumption
  isplitr [HO]
  · isplitl [Hp]; · iexact Hp
    iexact Ha
  iexact HO

end Step

end Cert.Exchange

end
-- ==== Proof.Body.lean ====
/-
One device's program, from what it holds before the barrier to what it holds at the end.
-/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The program's own device and offset expressions -/

/-- Signal 1 goes to the device whose slot 2 sends here. -/
theorem dev1_eq (c : Dev nD) : (⟨k0_dev1 c, k0_dev1_lt c⟩ : Dev nD) = from_ c 2 := by revert c; decide
/-- Signal 2 goes to the device whose slot 0 sends here. -/
theorem dev2_eq (c : Dev nD) : (⟨k0_dev2 c, k0_dev2_lt c⟩ : Dev nD) = from_ c 0 := by revert c; decide
/-- Signal 3 goes to the device whose slot 1 sends here. -/
theorem dev3_eq (c : Dev nD) : (⟨k0_dev3 c, k0_dev3_lt c⟩ : Dev nD) = from_ c 1 := by revert c; decide
/-- Chunk 0, slot 0: the device that the copy goes to. -/
theorem dev4_eq (c : Dev nD) : (⟨k0_dev4 c, k0_dev4_lt c⟩ : Dev nD) = peer c 0 := by revert c; decide
/-- Chunk 0, slot 1: the device that the copy goes to. -/
theorem dev5_eq (c : Dev nD) : (⟨k0_dev5 c, k0_dev5_lt c⟩ : Dev nD) = peer c 1 := by revert c; decide
/-- Chunk 0, slot 2: the device that the copy goes to. -/
theorem dev6_eq (c : Dev nD) : (⟨k0_dev6 c, k0_dev6_lt c⟩ : Dev nD) = peer c 2 := by revert c; decide
/-- Chunk 1, slot 0: the device that the copy goes to. -/
theorem dev7_eq (c : Dev nD) : (⟨k0_dev7 c, k0_dev7_lt c⟩ : Dev nD) = peer c 0 := by revert c; decide
/-- Chunk 1, slot 1: the device that the copy goes to. -/
theorem dev8_eq (c : Dev nD) : (⟨k0_dev8 c, k0_dev8_lt c⟩ : Dev nD) = peer c 1 := by revert c; decide
/-- Chunk 1, slot 2: the device that the copy goes to. -/
theorem dev9_eq (c : Dev nD) : (⟨k0_dev9 c, k0_dev9_lt c⟩ : Dev nD) = peer c 2 := by revert c; decide
/-- Chunk 2, slot 0: the device that the copy goes to. -/
theorem dev10_eq (c : Dev nD) : (⟨k0_dev10 c, k0_dev10_lt c⟩ : Dev nD) = peer c 0 := by revert c; decide
/-- Chunk 2, slot 1: the device that the copy goes to. -/
theorem dev11_eq (c : Dev nD) : (⟨k0_dev11 c, k0_dev11_lt c⟩ : Dev nD) = peer c 1 := by revert c; decide
/-- Chunk 2, slot 2: the device that the copy goes to. -/
theorem dev12_eq (c : Dev nD) : (⟨k0_dev12 c, k0_dev12_lt c⟩ : Dev nD) = peer c 2 := by revert c; decide
/-- Chunk 3, slot 0: the device that the copy goes to. -/
theorem dev13_eq (c : Dev nD) : (⟨k0_dev13 c, k0_dev13_lt c⟩ : Dev nD) = peer c 0 := by revert c; decide
/-- Chunk 3, slot 1: the device that the copy goes to. -/
theorem dev14_eq (c : Dev nD) : (⟨k0_dev14 c, k0_dev14_lt c⟩ : Dev nD) = peer c 1 := by revert c; decide
/-- Chunk 3, slot 2: the device that the copy goes to. -/
theorem dev15_eq (c : Dev nD) : (⟨k0_dev15 c, k0_dev15_lt c⟩ : Dev nD) = peer c 2 := by revert c; decide

/-- The hops as the program writes them. -/
abbrev hopW (s : Fin 3) : BitVec 32 := ![2#32, 1#32, 3#32] s

/-- Chunk 0: the staged columns that are cut out for slot `s` are those of the device it goes to. -/
theorem off1_band (c : Dev nD) (s : Fin 3) : k0_off1 c (hopW s) = ![(0 : Fin 4).val, 0, 512 * (peer c s).val] := by revert c s; decide
/-- Chunk 1: the staged columns that are cut out for slot `s` are those of the device it goes to. -/
theorem off4_band (c : Dev nD) (s : Fin 3) : k0_off4 c (hopW s) = ![(1 : Fin 4).val, 0, 512 * (peer c s).val] := by revert c s; decide
/-- Chunk 2: the staged columns that are cut out for slot `s` are those of the device it goes to. -/
theorem off6_band (c : Dev nD) (s : Fin 3) : k0_off6 c (hopW s) = ![(2 : Fin 4).val, 0, 512 * (peer c s).val] := by revert c s; decide
/-- Chunk 3: the staged columns that are cut out for slot `s` are those of the device it goes to. -/
theorem off8_band (c : Dev nD) (s : Fin 3) : k0_off8 c (hopW s) = ![(3 : Fin 4).val, 0, 512 * (peer c s).val] := by revert c s; decide
/-- Chunk 0: the staged columns that stay are the device's own. -/
theorem off3_band (c : Dev nD) : k0_off3 c = ![(0 : Fin 4).val, 0, 512 * c.val] := by revert c; decide
/-- Chunk 1: the staged columns that stay are the device's own. -/
theorem off5_band (c : Dev nD) : k0_off5 c = ![(1 : Fin 4).val, 0, 512 * c.val] := by revert c; decide
/-- Chunk 2: the staged columns that stay are the device's own. -/
theorem off7_band (c : Dev nD) : k0_off7 c = ![(2 : Fin 4).val, 0, 512 * c.val] := by revert c; decide
/-- Chunk 3: the staged columns that stay are the device's own. -/
theorem off9_band (c : Dev nD) : k0_off9 c = ![(3 : Fin 4).val, 0, 512 * c.val] := by revert c; decide

variable (m : (ℓ : Loc nD τ sig) → Buf (Elt F) ℓ) (K : Dev nD × Slot → ℕ)

/-! ## Start and end -/

/-- What chunk `k` of device `c` starts from, before its load. -/
def chPre (c : Dev nD) (k : Fin 4) : sProp 𝕄 :=
  iprop(ldIn m c k ∗ at0 c (.load k) ∗ tri (fun s => sendIn c s k) ∗ copyIn c k ∗ tri (fun s => finIn c s k) ∗ at0 c (.copy k))
/-- What chunk `k` leaves. -/
def chPost (c : Dev nD) (k : Fin 4) : sProp 𝕄 := iprop(chLoad m c k ∗ tri (fun s => finOut m c s k) ∗ copyOut m c k)

/-- What device `c`'s signals and its wait at the barrier start from. -/
def barIn (c : Dev nD) : sProp 𝕄 :=
  iprop(tri (fun s => iprop(tok (from_ c s) .bar s ∗ rows c (from_ c s))) ∗ due_ c .bar 3 ∗ at0 c .bar)

omit [FloatOps F] in
/-- The rows that device `c` writes in the result of device `e`, as four chunks. -/
theorem rows_four (e c : Dev nD) : rows (F := F) e c = four (fun k => iprop(∃ f, ouP e c k f)) := by
  unfold rows
  exact bigSep_four _

set_option maxHeartbeats 1600000 in
set_option maxRecDepth 8000 in
/-- The program of device `c`, run from its start to its end. -/
theorem body_run (c : Dev nD) (Kt : PUnit → sProp 𝕄) :
    iprop(records m K ∗ barIn c ∗ four (fun k => chPre m c k) ∗ ow c (O₀ c))
      ⊢ iprop(((four (fun k => chPost m c k) ∗ at1 c .bar ∗ ow c 0) -∗ Kt ⟨⟩) -∗ wpp c (bodyAt0 (F := F) t0_0) Kt) := by
  simp only [bodyAt0, cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton]
  unfold k0_part1_skel k0_part2_skel k0_part3_skel k0_part4_skel k0_part5_skel k0_part6_skel k0_part7_skel k0_part8_skel k0_part9_skel k0_part10_skel
    k0_part11_skel k0_part12_skel k0_part13_skel k0_part14_skel k0_part15_skel k0_part16_skel k0_part17_skel k0_part18_skel k0_part19_skel
    k0_part20_skel k0_part21_skel k0_part22_skel k0_part23_skel k0_part24_skel
  simp only [wpp, semSignalWord, semWaitWord, Prog.lift, Prog.bind_op, Prog.bind_ret, Prog.pure_eq_ret, wp_deviceId]
  unfold barIn chPre
  iintro ⟨#HR, ⟨⟨⟨T0, R0⟩, ⟨T1, R1⟩, ⟨T2, R2⟩⟩, HdB, HaB⟩,
    ⟨⟨L0, A0, S0, C0, E0, B0⟩, ⟨L1, A1, S1, C1, E1, B1⟩, ⟨L2, A2, S2, C2, E2, B2⟩, ⟨L3, A3, S3, C3, E3, B3⟩⟩, HO⟩ Hk
  unfold O₀
  -- the three signals
  iapply (step_signal m K c _ 2 (dev1_eq c) _ rfl) $$ [T2 R2 HO]
  · isplitr; · iexact HR
    isplitl [T2]; · iexact T2
    isplitl [R2] <;> iassumption
  iintro HO
  iapply (step_signal m K c _ 0 (dev2_eq c) _ rfl) $$ [T0 R0 HO]
  · isplitr; · iexact HR
    isplitl [T0]; · iexact T0
    isplitl [R0] <;> iassumption
  iintro HO
  iapply (step_signal m K c _ 1 (dev3_eq c) _ rfl) $$ [T1 R1 HO]
  · isplitr; · iexact HR
    isplitl [T1]; · iexact T1
    isplitl [R1] <;> iassumption
  iintro HO
  -- the wait at the barrier
  iapply (step_bar m K c (O₁_above (by decide) c) rfl) $$ [HdB HaB HO]
  · isplitr; · iexact HR
    isplitl [HdB]; · iexact HdB
    isplitl [HaB] <;> iassumption
  iintro ⟨⟨Q0, Q1, Q2⟩, HaB, HO⟩
  ihave Q0' := (Entails.of_eq (rows_four (peer c 0) c)) $$ Q0
  ihave Q1' := (Entails.of_eq (rows_four (peer c 1) c)) $$ Q1
  ihave Q2' := (Entails.of_eq (rows_four (peer c 2) c)) $$ Q2
  icases Q0' with ⟨P00, P01, P02, P03⟩
  icases Q1' with ⟨P10, P11, P12, P13⟩
  icases Q2' with ⟨P20, P21, P22, P23⟩
  -- the four loads start
  iapply (step_load m K c 0) $$ [L0]
  · isplitr; · iexact HR
    iexact L0
  iintro D0
  iapply (step_load m K c 1) $$ [L1]
  · isplitr; · iexact HR
    iexact L1
  iintro D1
  iapply (step_load m K c 2) $$ [L2]
  · isplitr; · iexact HR
    iexact L2
  iintro D2
  iapply (step_load m K c 3) $$ [L3]
  · isplitr; · iexact HR
    iexact L3
  iintro D3
  -- the four chunks
  unfold O₁
  iapply (step_chunk m K c _ _ _ 0 (dev4_eq c) (dev5_eq c) (dev6_eq c) ((((Above.zero 0).due (by decide) c 3).due (by decide) c 2).due (by decide) c 1) _ _ _ _
      (off1_band c 0) (off1_band c 1) (off1_band c 2) (off3_band c)) $$ [D0 A0 S0 C0 P00 P10 P20 HO]
  · isplitr; · iexact HR
    isplitl [D0 A0 S0 C0]
    · unfold chIn
      isplitl [D0]; · iexact D0
      isplitl [A0]; · iexact A0
      isplitl [S0] <;> iassumption
    isplitr [HO]
    · isplitl [P00]; · iexact P00
      isplitl [P10] <;> iassumption
    iexact HO
  iintro ⟨M0, W0, HO⟩
  iapply (step_chunk m K c _ _ _ 1 (dev7_eq c) (dev8_eq c) (dev9_eq c) (((Above.zero 0).due (by decide) c 3).due (by decide) c 2) _ _ _ _
      (off4_band c 0) (off4_band c 1) (off4_band c 2) (off5_band c)) $$ [D1 A1 S1 C1 P01 P11 P21 HO]
  · isplitr; · iexact HR
    isplitl [D1 A1 S1 C1]
    · unfold chIn
      isplitl [D1]; · iexact D1
      isplitl [A1]; · iexact A1
      isplitl [S1] <;> iassumption
    isplitr [HO]
    · isplitl [P01]; · iexact P01
      isplitl [P11] <;> iassumption
    iexact HO
  iintro ⟨M1, W1, HO⟩
  iapply (step_chunk m K c _ _ _ 2 (dev10_eq c) (dev11_eq c) (dev12_eq c) ((Above.zero 0).due (by decide) c 3) _ _ _ _
      (off6_band c 0) (off6_band c 1) (off6_band c 2) (off7_band c)) $$ [D2 A2 S2 C2 P02 P12 P22 HO]
  · isplitr; · iexact HR
    isplitl [D2 A2 S2 C2]
    · unfold chIn
      isplitl [D2]; · iexact D2
      isplitl [A2]; · iexact A2
      isplitl [S2] <;> iassumption
    isplitr [HO]
    · isplitl [P02]; · iexact P02
      isplitl [P12] <;> iassumption
    iexact HO
  iintro ⟨M2, W2, HO⟩
  iapply (step_chunk m K c _ _ _ 3 (dev13_eq c) (dev14_eq c) (dev15_eq c) (Above.zero 0) _ _ _ _
      (off8_band c 0) (off8_band c 1) (off8_band c 2) (off9_band c)) $$ [D3 A3 S3 C3 P03 P13 P23 HO]
  · isplitr; · iexact HR
    isplitl [D3 A3 S3 C3]
    · unfold chIn
      isplitl [D3]; · iexact D3
      isplitl [A3]; · iexact A3
      isplitl [S3] <;> iassumption
    isplitr [HO]
    · isplitl [P03]; · iexact P03
      isplitl [P13] <;> iassumption
    iexact HO
  iintro ⟨M3, W3, HO⟩
  -- the waits that end them
  iapply (step_close m K c 0) $$ [M0 E0 B0 HO]
  · isplitr; · iexact HR
    isplitl [M0]; · iexact M0
    isplitl [E0]; · iexact E0
    isplitl [B0] <;> iassumption
  iintro ⟨F0, G0, HO⟩
  iapply (step_close m K c 1) $$ [M1 E1 B1 HO]
  · isplitr; · iexact HR
    isplitl [M1]; · iexact M1
    isplitl [E1]; · iexact E1
    isplitl [B1] <;> iassumption
  iintro ⟨F1, G1, HO⟩
  iapply (step_close m K c 2) $$ [M2 E2 B2 HO]
  · isplitr; · iexact HR
    isplitl [M2]; · iexact M2
    isplitl [E2]; · iexact E2
    isplitl [B2] <;> iassumption
  iintro ⟨F2, G2, HO⟩
  iapply (step_close m K c 3) $$ [M3 E3 B3 HO]
  · isplitr; · iexact HR
    isplitl [M3]; · iexact M3
    isplitl [E3]; · iexact E3
    isplitl [B3] <;> iassumption
  iintro ⟨F3, G3, HO⟩
  unfold wpp
  rw [wp_ret]
  imodintro
  iapply Hk
  unfold chPost
  isplitr [HaB HO]
  · isplitl [W0 F0 G0]
    · isplitl [W0]; · iexact W0
      isplitl [F0] <;> iassumption
    isplitl [W1 F1 G1]
    · isplitl [W1]; · iexact W1
      isplitl [F1] <;> iassumption
    isplitl [W2 F2 G2]
    · isplitl [W2]; · iexact W2
      isplitl [F2] <;> iassumption
    isplitl [W3]; · iexact W3
    isplitl [F3] <;> iassumption
  isplitl [HaB] <;> iassumption

end Cert.Exchange

end
-- ==== Proof.Parts.lean ====
/-
The buffers of a device and their parts: every buffer is the sum of its chunks. Hence what a device is given at the start is
what its program starts from, and what its program leaves is whole buffers again.
-/
module

public import proofs.«01_k».proof.Proof.Body

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sums -/

omit [FloatOps F] in
/-- A buffer is the sum of the parts on which a key takes each of its values. -/
theorem whole_by_key {ℓ : Loc nD τ sig} {T : Type} [Fintype T] [DecidableEq T] (P : T → Finset (Idx ℓ)) (key : Idx ℓ → T)
    (h : ∀ t i, i ∈ P t ↔ key i = t) (f : Buf (Elt F) ℓ) :
    (ℓ ↦{fullShare} f : sProp 𝕄) = bigSep Finset.univ fun t => ℓ ↦[P t]{fullShare} f := by
  rw [← pointsTo_biUnion Finset.univ P fun t _ t' _ hne => Finset.disjoint_left.mpr fun i hi hi' => hne (((h t i).mp hi).symm.trans ((h t' i).mp hi')),
    show Finset.univ.biUnion P = Finset.univ from
      Finset.eq_univ_iff_forall.mpr fun i => Finset.mem_biUnion.mpr ⟨key i, Finset.mem_univ _, (h _ i).mpr rfl⟩]

omit [FloatOps F] in
/-- Parts at the same contents are parts at some contents. -/
theorem some_each {T A : Type} [Fintype T] (Ψ : T → A → sProp 𝕄) :
    iprop(∃ f, bigSep Finset.univ fun t => Ψ t f) ⊢ bigSep Finset.univ fun t => iprop(∃ f, Ψ t f) := by
  have h (f : A) : (bigSep Finset.univ fun t => Ψ t f) ⊢ bigSep Finset.univ fun t => iprop(∃ f, Ψ t f) :=
    bigSep_mono fun t _ => show Ψ t f ⊢ iprop(∃ f, Ψ t f) from by iintro H; iexists f; iexact H
  iintro ⟨%f, H⟩
  iapply (h f) $$ H

omit [FloatOps F] in
/-- Two sums may be exchanged. -/
theorem sums_swap {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod fun p : A × B => Φ p.1 p.2, bigSep_univ_equiv (Equiv.prodComm B A), bigSep_univ_prod]
  rfl

omit [FloatOps F] in
/-- Three pairs are two triples. -/
theorem tri_sep (P Q : Fin 3 → sProp 𝕄) : tri (fun s => iprop(P s ∗ Q s)) = iprop(tri P ∗ tri Q) := by
  rw [← bigSep_tri, ← bigSep_tri, ← bigSep_tri, bigSep_sep']

omit [FloatOps F] in
/-- A sum over the three slots of sums over the four chunks, the other way about. -/
theorem tri_chunks (Ψ : Fin 3 → Fin 4 → sProp 𝕄) :
    tri (fun s => bigSep Finset.univ fun k => Ψ s k) = bigSep Finset.univ fun k => tri fun s => Ψ s k := by
  rw [← bigSep_tri, sums_swap]
  exact bigSep_congr fun k _ => bigSep_tri _

omit [FloatOps F] in
/-- A resource for every slot and chunk is a triple for every chunk. -/
theorem pairs_chunks (Φ : Fin 3 × Fin 4 → sProp 𝕄) : bigSep Finset.univ Φ = bigSep Finset.univ fun k => tri fun s => Φ (s, k) := by
  rw [bigSep_univ_prod, ← tri_chunks, bigSep_tri]

omit [FloatOps F] in
/-- The devices are `c` and the three that send to it. -/
theorem devices_from (c : Dev nD) (Ψ : Dev nD → sProp 𝕄) : bigSep Finset.univ Ψ = iprop(Ψ c ∗ tri fun s => Ψ (from_ c s)) := by
  rw [bigSep_univ_eq_bigSepL [c, from_ c 0, from_ c 1, from_ c 2] (by revert c; decide) (by revert c; decide),
    bigSepL_cons_cons, bigSepL_cons_cons, bigSepL_cons_cons, bigSepL_singleton]
  rfl

omit [FloatOps F] in
/-- The semaphores of a device, kind by kind. -/
theorem slots_kinds (Φ : Slot → sProp 𝕄) :
    bigSep Finset.univ Φ = iprop(Φ .bar ∗ ((bigSep Finset.univ fun k => Φ (.load k)) ∗ (bigSep Finset.univ fun k => Φ (.copy k)))
      ∗ (bigSep Finset.univ fun k => tri fun s => Φ (.send (s, k))) ∗ (bigSep Finset.univ fun k => tri fun s => Φ (.recv (s, k)))) := by
  rw [bigSep_univ_sum, bigSep_univ_sum, bigSep_univ_sum, bigSep_univ_sum, pairs_chunks, pairs_chunks, Finset.univ_unique, bigSep_singleton]
  rfl

/-! ## The buffers -/

section Buffers
variable (m : (ℓ : Loc nD τ sig) → Buf (Elt F) ℓ) (c : Dev nD)

omit [FloatOps F] in
/-- The argument is its four chunks; -/
theorem arg_parts : ((c : Thread nD τ).loc main_arg0 ↦{fullShare} m ((c : Thread nD τ).loc main_arg0) : sProp 𝕄)
    = bigSep Finset.univ fun k => xP m c k :=
  whole_by_key (ℓ := (c : Thread nD τ).loc main_arg0) (fun k => (xV k).view.set)
    (fun i : S1024x2048.Idx => ⟨(i 0).val / 256, by have h : (i 0).val < 1024 := (i 0).isLt; omega⟩)
    (fun k i => (mem_xV (k := k) (i := i)).trans (Fin.ext_iff (a := (⟨_, _⟩ : Fin 4))).symm) _

omit [FloatOps F] in
/-- the staging buffer is its four chunks; -/
theorem stage_parts (f : cc0_scratch0.ty.Contents (Elt F)) : ((c : Thread nD τ).loc cc0_scratch0 ↦{fullShare} f : sProp 𝕄)
    = bigSep Finset.univ fun k => stP c k f :=
  whole_by_key (ℓ := (c : Thread nD τ).loc cc0_scratch0) (fun k => (stageV k).view.set) (fun i : S4x256x2048.Idx => i 0)
    (fun k i => (mem_stageV (k := k) (i := i)).trans Fin.ext_iff.symm) _

omit [FloatOps F] in
/-- the outgoing buffer is its twelve slots; -/
theorem comm_parts (f : cc0_scratch1.ty.Contents (Elt F)) : ((c : Thread nD τ).loc cc0_scratch1 ↦{fullShare} f : sProp 𝕄)
    = bigSep Finset.univ fun k => tri fun s => coP c s k f :=
  (whole_by_key (ℓ := (c : Thread nD τ).loc cc0_scratch1) (fun p : Fin 3 × Fin 4 => (commV p.1 p.2).view.set) (fun i : S3x4x256x512.Idx => (i 0, i 1))
    (fun p i => by
      rw [show ((commV p.1 p.2).view.set) = _ from set_commV p.1 p.2]
      exact (mem_commR (s := p.1) (k := p.2) (i := i)).trans ((and_congr Fin.ext_iff Fin.ext_iff).symm.trans (Prod.ext_iff (x := (i 0, i 1)) (y := p)).symm)) _).trans
    (pairs_chunks fun p => coP c p.1 p.2 f)

omit [FloatOps F] in
/-- the buffer of the device's own columns is its four chunks; -/
theorem loc_parts (f : cc0_scratch2.ty.Contents (Elt F)) : ((c : Thread nD τ).loc cc0_scratch2 ↦{fullShare} f : sProp 𝕄)
    = bigSep Finset.univ fun k => loP c k f :=
  whole_by_key (ℓ := (c : Thread nD τ).loc cc0_scratch2) (fun k => (locV k).view.set) (fun i : S4x256x512.Idx => i 0)
    (fun k i => by rw [show ((locV k).view.set) = _ from set_locV k]; exact (mem_locR (k := k) (i := i)).trans Fin.ext_iff.symm) _

/-- The device and the chunk that fill a row of the result. -/
def rowDev (i : S4096x512.Idx) : Dev nD := ⟨(i 0).val / 1024, by have h : (i 0).val < 4096 := (i 0).isLt; show _ < 4; omega⟩
@[inherit_doc rowDev] def rowChunk (i : S4096x512.Idx) : Fin 4 := ⟨(i 0).val / 256 % 4, Nat.mod_lt _ (by decide)⟩

omit [FloatOps F] in
/-- and the result is the rows that each chunk of each device fills: the device's own, and those of the three that send to it. -/
theorem out_parts (f : main_v1.ty.Contents (Elt F)) : ((c : Thread nD τ).loc main_v1 ↦{fullShare} f : sProp 𝕄)
    = iprop((bigSep Finset.univ fun k => ouP c c k f) ∗ (bigSep Finset.univ fun k => tri fun s => ouP c (from_ c s) k f)) := by
  refine (whole_by_key (ℓ := (c : Thread nD τ).loc main_v1) (fun p : Dev nD × Fin 4 => (outV p.1 p.2).view.set)
    (fun i : S4096x512.Idx => (rowDev i, rowChunk i))
    (fun p i => (mem_outV (e := p.1) (k := p.2) (i := i)).trans
      ((and_congr (Fin.ext_iff (a := rowDev i)) (Fin.ext_iff (a := rowChunk i))).symm.trans (Prod.ext_iff (x := (rowDev i, rowChunk i)) (y := p)).symm)) f).trans ?_
  rw [bigSep_univ_prod, devices_from c]
  exact congrArg _ (tri_chunks fun s k => ouP c (from_ c s) k f)

end Buffers

/-! ## The start and the end of the program -/

section Ends
variable (m : (ℓ : Loc nD τ sig) → Buf (Elt F) ℓ) (c : Dev nD)

/-- The tokens device `c` pays with. -/
def payToks : sProp 𝕄 :=
  iprop(tri (fun s => tok (from_ c s) .bar s) ∗ ((bigSep Finset.univ fun k => tok c (.load k) 0) ∗ (bigSep Finset.univ fun k => tok c (.copy k) 0))
    ∗ (bigSep Finset.univ fun k => tri fun s => tok c (.send (s, k)) 0) ∗ (bigSep Finset.univ fun k => tri fun s => tok (peer c s) (.recv (s, k)) 0))

/-- What device `c` is dealt: its semaphores before their round, and the tokens it pays with; -/
def dealt : sProp 𝕄 := iprop((bigSep Finset.univ fun t : Slot => at0 c t) ∗ payToks c)

/-- what it may collect at the barrier and from the copies sent to it; -/
def claims : sProp 𝕄 := iprop(due_ c .bar 3 ∗ bigSep Finset.univ fun k => tri fun s => due_ c (.recv (s, k)) NB)

/-- its three scratch buffers. -/
def scratch : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f))

/-- Its argument and its result. -/
def arrays (f : main_v1.ty.Contents (Elt F)) : sProp 𝕄 :=
  iprop(((c : Thread nD τ).loc main_arg0 ↦{fullShare} m ((c : Thread nD τ).loc main_arg0)) ∗ ((c : Thread nD τ).loc main_v1 ↦{fullShare} f))

omit [FloatOps F] in
/-- A device's program starts from what the device is given. -/
theorem begin_body (f : main_v1.ty.Contents (Elt F)) :
    iprop(dealt c ∗ claims c ∗ arrays m c f ∗ scratch c) ⊢ (iprop(barIn c ∗ four (fun k => chPre m c k)) : sProp 𝕄) := by
  unfold dealt payToks claims arrays scratch barIn
  rw [slots_kinds, arg_parts, out_parts, ← bigSep_four]
  unfold chPre ldIn sendIn copyIn finIn rows
  simp only [tri_sep, bigSep_sep']
  simp only [stage_parts, comm_parts, loc_parts]
  iintro ⟨⟨⟨AB, ⟨AL, AC⟩, AS, AR⟩, TB, ⟨TL, TC⟩, TS, TR⟩, ⟨DB, DR⟩, ⟨X, OO, OF⟩, ⟨%f0, S0⟩, ⟨%f1, S1⟩, ⟨%f2, S2⟩⟩
  isplitl [TB OF DB AB]
  · isplitl [TB OF]
    · isplitl [TB]; · iexact TB
      icases OF with ⟨O0, O1, O2⟩
      isplitl [O0]; · iapply (some_each fun k f => ouP c (from_ c 0) k f); iexists f; iexact O0
      isplitl [O1]; · iapply (some_each fun k f => ouP c (from_ c 1) k f); iexists f; iexact O1
      iapply (some_each fun k f => ouP c (from_ c 2) k f); iexists f; iexact O2
    isplitl [DB] <;> iassumption
  isplitl [X S0 TL]
  · isplitl [X]; · iexact X
    isplitl [S0]
    · iapply (some_each fun k f => stP c k f); iexists f0; iexact S0
    iexact TL
  isplitl [AL]; · iexact AL
  isplitl [S1 TS TR]
  · isplitl [S1]
    · ihave S1' := (Entails.of_eq (tri_chunks fun s k => coP c s k f1).symm) $$ S1
      icases S1' with ⟨C0, C1, C2⟩
      isplitl [C0]; · iapply (some_each fun k f => coP c 0 k f); iexists f1; iexact C0
      isplitl [C1]; · iapply (some_each fun k f => coP c 1 k f); iexists f1; iexact C1
      iapply (some_each fun k f => coP c 2 k f); iexists f1; iexact C2
    isplitl [TS] <;> iassumption
  isplitl [S2 OO TC]
  · isplitl [S2]
    · iapply (some_each fun k f => loP c k f); iexists f2; iexact S2
    isplitl [OO]
    · iapply (some_each fun k f => ouP c c k f); iexists f; iexact OO
    iexact TC
  isplitl [AS AR DR]
  · isplitl [AS]; · iexact AS
    isplitl [AR] <;> iassumption
  iexact AC

/-- What the program leaves is the argument as it was, the result filled, and the scratch buffers; every semaphore's round is over. -/
theorem end_body : iprop(four (fun k => chPost m c k) ∗ at1 c .bar)
    ⊢ iprop(arrays m c (outF m c) ∗ scratch c ∗ bigSep Finset.univ fun t : Slot => at1 c t) := by
  unfold arrays scratch
  rw [slots_kinds, arg_parts, out_parts, ← bigSep_four]
  unfold chPost chLoad finOut copyOut
  simp only [tri_sep, bigSep_sep']
  iintro ⟨⟨⟨AL, S0, X⟩, ⟨⟨S1, AS⟩, OF, AR⟩, ⟨OO, S2⟩, AC⟩, AB⟩
  isplitl [X OO OF]
  · isplitl [X]; · iexact X
    isplitl [OO] <;> iassumption
  isplitl [S0 S1 S2]
  · isplitl [S0]; · iexists (stageF m c); iapply (Entails.of_eq (stage_parts c (stageF m c)).symm) $$ S0
    isplitl [S1]; · iexists (commF m c); iapply (Entails.of_eq ((tri_chunks fun s k => coP c s k (commF m c)).trans (comm_parts c (commF m c)).symm)) $$ S1
    iexists (locF m c); iapply (Entails.of_eq (loc_parts c (locF m c)).symm) $$ S2
  isplitl [AB]; · iexact AB
  isplitl [AL AC]
  · isplitl [AL] <;> iassumption
  isplitl [AS] <;> iassumption

end Ends

/-! ## The semaphores at the end -/

/-- A device whose rounds are all over closes its semaphores; each is at zero. -/
theorem close_all (m : (ℓ : Loc nD τ sig) → Buf (Elt F) ℓ) (K : Dev nD × Slot → ℕ) (c : Dev nD) :
    iprop(records m K ∗ bigSep Finset.univ fun t : Slot => at1 c t)
      ⊢ |={Set.univ}=> (bigSep Finset.univ fun t : Slot => semVal (cell c t) 0 : sProp 𝕄) := by
  refine (sep_mono_left (bigSep_of_persistent (Finset.univ : Finset Slot) (records m K))).trans ?_
  rw [← bigSep_sep']
  refine (bigSep_mono fun t _ => show iprop(records m K ∗ at1 c t) ⊢ |={Set.univ}=> semVal (cell c t) 0 from ?_).trans (bigSep_fupd _ _)
  unfold at1
  iintro ⟨#HR, Ha⟩
  iapply (Rounds.cell_close ER (Sc m) (Set.mem_univ (K (c, t))) (fun h => h) (R := 0 + 1) (Sc_later m (cell c t)))
  isplitr; · iapply (records_inv m K c t) $$ HR
  iexact Ha

end Cert.Exchange

end
-- ==== Proof.Deal.lean ====
/-
The launch deals the resources: every semaphore's invariant is made, every device is handed the tokens it pays with, and
what it may collect.
-/
module

public import proofs.«01_k».proof.Proof.Parts

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What is minted -/

/-- A semaphore other than the barrier; these are the kernel's own. -/
abbrev Own : Type := (Fin 4 ⊕ Fin 4) ⊕ (Fin 3 × Fin 4) ⊕ (Fin 3 × Fin 4)

/-- The kernel's own semaphores. -/
abbrev osem (t : Own) : SemLoc sig := semOf (.inr t)

def place (p : Dev nD × Slot) : GSem nD τ sig := cell p.1 p.2
/-- Different devices and slots have different semaphores. -/
theorem place_inj : Function.Injective place := fun _ _ h => Prod.ext (cell_inj h).1 (cell_inj h).2
/-- All the semaphores, -/
def places : Finset (GSem nD τ sig) := Finset.univ.map ⟨place, place_inj⟩

/-- A device's duties: the barrier's three, and one for each of its other semaphores. -/
abbrev Duty : Type := Fin 3 ⊕ Own

abbrev dutySlot : Duty → Slot
  | .inl _ => .bar
  | .inr t => .inr t
abbrev dutyNo : Duty → Fin 3
  | .inl s => s
  | .inr _ => 0

def mint (p : Dev nD × Duty) : GSem nD τ sig × ℕ × Fin 3 := (cell p.1 (dutySlot p.2), 0, dutyNo p.2)
/-- Different duties have different tokens. -/
theorem mint_inj : Function.Injective mint := by
  rintro ⟨c, d⟩ ⟨c', d'⟩ h
  obtain ⟨h1, h2⟩ := cell_inj (congrArg Prod.fst h)
  have h3 : dutyNo d = dutyNo d' := congrArg (fun x : GSem nD τ sig × ℕ × Fin 3 => x.2.2) h
  refine Prod.ext h1 ?_
  rcases d with s | t <;> rcases d' with s' | t'
  · exact congrArg Sum.inl h3
  · exact absurd h2 Sum.inl_ne_inr
  · exact absurd h2 Sum.inr_ne_inl
  · exact congrArg Sum.inr (Sum.inr.inj h2)
/-- and all the tokens. -/
def tokens : Finset (GSem nD τ sig × ℕ × Fin 3) := Finset.univ.map ⟨mint, mint_inj⟩

def u₀ : UU := (initOf (Pipeline.cells cfgs cellOf_inj) (Pipeline.launchToks cfgs cellOf_inj), initOf places tokens)

variable (m : (ℓ : Loc nD τ sig) → Buf (Elt F) ℓ)

/-- The tokens of device `c`'s own semaphores. -/
def minted (c : Dev nD) : sProp 𝕄 :=
  iprop(tri (fun s => tok c .bar s) ∗ ((bigSep Finset.univ fun k => tok c (.load k) 0) ∗ (bigSep Finset.univ fun k => tok c (.copy k) 0))
    ∗ (bigSep Finset.univ fun k => tri fun s => tok c (.send (s, k)) 0) ∗ (bigSep Finset.univ fun k => tri fun s => tok c (.recv (s, k)) 0))

/-- What each device gets out of the launch element, -/
def G (c : Dev nD) : sProp 𝕄 :=
  iprop((bigSep Finset.univ fun t : Slot => roundState ER (Sc m) (cell c t) 0) ∗ (bigSep Finset.univ fun t : Slot => reached ER (cell c t) 0)
    ∗ (bigSep Finset.univ fun t : Slot => at0 c t) ∗ minted c)

/-- The invariants of all semaphores, and that their rounds are open. -/
def chart (K : Dev nD × Slot → ℕ) : sProp 𝕄 :=
  bigSep Finset.univ fun p : Dev nD × Slot => iprop(cellInv ER (Sc m) (K p) (cell p.1 p.2) ∗ reached ER (cell p.1 p.2) 0)

instance chart_persistent (K : Dev nD × Slot → ℕ) : BI.Persistent (chart m K) := by unfold chart; infer_instance

/-- and what it starts with once the invariants are made and the tokens dealt. -/
def G' (c : Dev nD) : sProp 𝕄 := iprop(∃ K, chart m K ∗ dealt c)

/-- A resource for every semaphore is one for every device's every slot. -/
theorem over_places (Φ : GSem nD τ sig → sProp 𝕄) :
    bigSep places Φ = bigSep Finset.univ fun c : Dev nD => bigSep Finset.univ fun t : Slot => Φ (cell c t) := by
  unfold places; rw [bigSep_map, bigSep_univ_prod]; rfl

/-- All the tokens are those of each device. -/
theorem over_tokens : (bigSep tokens fun x => (dutyTok ER x.1 x.2.1 x.2.2 : sProp 𝕄)) = bigSep Finset.univ fun c : Dev nD => minted c := by
  unfold tokens; rw [bigSep_map, bigSep_univ_prod]
  refine bigSep_congr fun c _ => ?_
  rw [bigSep_univ_sum, bigSep_univ_sum, bigSep_univ_sum, bigSep_univ_sum, pairs_chunks, pairs_chunks, bigSep_tri]
  rfl

/-- The launch element is dealt. -/
theorem deal : BI.own (ER (initOf places tokens)) ⊢ (|==> bigSep Finset.univ (G m) : sProp 𝕄) := by
  iintro HX
  imod (Rounds.fund ER (Sc m) places tokens) $$ HX with ⟨Hst, Hr, Hat, Htok⟩
  imodintro
  ihave Hst' := (Entails.of_eq (over_places fun g => roundState ER (Sc m) g 0)) $$ Hst
  ihave Hr' := (Entails.of_eq (over_places fun g => reached ER g 0)) $$ Hr
  ihave Hat' := (Entails.of_eq (over_places fun g => atPos ER g 0 ∅ 0)) $$ Hat
  ihave Htok' := (Entails.of_eq over_tokens) $$ Htok
  unfold G at0; simp only [bigSep_sep']
  isplitl [Hst']; · iexact Hst'
  isplitl [Hr']; · iexact Hr'
  isplitl [Hat'] <;> iassumption

/-! ## The invariants -/

/-- Of the semaphores that outlive the kernel a device has the barrier alone. -/
theorem unscopedSems0_eq (c : Dev nD) : (unscopedSems0 c : sProp 𝕄) = semVal (cell c .bar) 0 := by
  unfold unscopedSems0; rw [bigSep_eq_bigSepL_of_eq [SemLoc.reg barS] (by decide) (by decide)]; rfl

/-- A device's semaphores are the barrier and the kernel's own. -/
theorem sems_eq (c : Dev nD) :
    iprop(unscopedSems0 c ∗ Pipeline.ownSems0 (Ix := Unit) (Name := ℕ) (U := UU) (Lvl := ℕ) (Val := Elt F) (τ := τ) osem c)
      = (bigSep Finset.univ fun t : Slot => semVal (cell c t) 0 : sProp 𝕄) := by
  rw [bigSep_univ_sum, Finset.univ_unique, bigSep_singleton, unscopedSems0_eq]
  rfl

/-- Every semaphore of a device gets its invariant. -/
theorem invariants (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun t : Slot => iprop(∃ κ : ℕ, cellInv ER (Sc m) κ (cell c t)))
          ∗ (bigSep Finset.univ fun t : Slot => reached ER (cell c t) 0) ∗ (bigSep Finset.univ fun t : Slot => at0 c t) ∗ minted c) := by
  have h : iprop((bigSep Finset.univ fun t : Slot => semVal (cell c t) 0) ∗ bigSep Finset.univ fun t : Slot => roundState ER (Sc m) (cell c t) 0)
      ⊢ (|={Set.univ}=> bigSep Finset.univ fun t : Slot => iprop(∃ κ : ℕ, cellInv ER (Sc m) κ (cell c t)) : sProp 𝕄) := by
    rw [← bigSep_sep']
    exact (bigSep_mono fun t _ => (Rounds.body_intro ER (Sc m) (cell c t)).trans inv_alloc).trans (bigSep_fupd _ _)
  unfold G
  iintro ⟨Ho, Hu, Hst, Hr, Hat, Ht⟩
  imod h $$ [Ho Hu Hst] with HI
  · isplitl [Ho Hu]
    · iapply (Entails.of_eq (sems_eq c)); isplitl [Hu] <;> iassumption
    iexact Hst
  imodintro
  isplitl [HI]; · iexact HI
  isplitl [Hr]; · iexact Hr
  isplitl [Hat] <;> iassumption

/-! ## The tokens go to those who pay with them -/

/-- The devices, each at the one it sends to through slot `s`. -/
def ringE (s : Fin 3) : Dev nD ≃ Dev nD := ⟨fun c => peer c s, fun c => from_ c s, fun c => from_peer c s, fun c => peer_from c s⟩

/-- A resource of every device, counted at the devices that slot `s` comes from, -/
theorem at_from (s : Fin 3) (Φ : Dev nD → sProp 𝕄) : bigSep Finset.univ Φ = bigSep Finset.univ fun c => Φ (from_ c s) :=
  bigSep_univ_equiv (ringE s).symm Φ
/-- and at the devices that slot `s` goes to. -/
theorem at_peer (s : Fin 3) (Φ : Dev nD → sProp 𝕄) : bigSep Finset.univ Φ = bigSep Finset.univ fun c => Φ (peer c s) :=
  bigSep_univ_equiv (ringE s) Φ

/-- The barrier's tokens go to the devices that send, the receiving semaphores' to the devices sent from. -/
theorem around : (bigSep Finset.univ fun c : Dev nD => (minted c : sProp 𝕄)) ⊢ bigSep Finset.univ fun c : Dev nD => payToks c := by
  unfold minted payToks
  simp only [bigSep_sep']
  rw [at_from 0 fun c : Dev nD => (tok c .bar 0 : sProp 𝕄), at_from 1 fun c : Dev nD => (tok c .bar 1 : sProp 𝕄),
    at_from 2 fun c : Dev nD => (tok c .bar 2 : sProp 𝕄),
    at_peer 0 fun c : Dev nD => (bigSep Finset.univ fun k => tok c (.recv (0, k)) 0 : sProp 𝕄),
    at_peer 1 fun c : Dev nD => (bigSep Finset.univ fun k => tok c (.recv (1, k)) 0 : sProp 𝕄),
    at_peer 2 fun c : Dev nD => (bigSep Finset.univ fun k => tok c (.recv (2, k)) 0 : sProp 𝕄)]

/-- All devices' resources, regrouped. -/
theorem regroup :
    (bigSep Finset.univ fun c : Dev nD => iprop((bigSep Finset.univ fun t : Slot => iprop(∃ κ : ℕ, cellInv ER (Sc m) κ (cell c t)))
          ∗ (bigSep Finset.univ fun t : Slot => reached ER (cell c t) 0) ∗ (bigSep Finset.univ fun t : Slot => at0 c t) ∗ minted c) : sProp 𝕄)
      ⊢ bigSep Finset.univ (G' m) := by
  have hK (K : Dev nD × Slot → ℕ) : iprop(chart m K ∗ bigSep Finset.univ fun c : Dev nD => dealt c) ⊢ bigSep Finset.univ (G' m) := by
    refine (sep_mono_left (bigSep_of_persistent (Finset.univ : Finset (Dev nD)) (chart m K))).trans ?_
    rw [← bigSep_sep']
    exact bigSep_mono fun c _ => show iprop(chart m K ∗ dealt c) ⊢ G' m c from by unfold G'; iintro H; iexists K; iexact H
  rw [bigSep_sep', bigSep_sep', bigSep_sep', ← bigSep_univ_prod fun p : Dev nD × Slot => iprop(∃ κ : ℕ, cellInv ER (Sc m) κ (cell p.1 p.2)),
    ← bigSep_univ_prod fun p : Dev nD × Slot => (reached ER (cell p.1 p.2) 0 : sProp 𝕄)]
  iintro ⟨HI, Hr, Hat, Ht⟩
  ihave HK := (bigSep_exists_pi Finset.univ fun (p : Dev nD × Slot) (κ : ℕ) => (cellInv ER (Sc m) κ (cell p.1 p.2) : sProp 𝕄)) $$ HI
  icases HK with ⟨%K, HI⟩
  ihave Ht' := around $$ Ht
  iapply (hK K)
  unfold chart dealt
  rw [bigSep_sep', bigSep_sep']
  isplitl [HI Hr]
  · isplitl [HI] <;> iassumption
  isplitl [Hat] <;> iassumption

/-- The step that makes the invariants and deals the tokens, of all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => invariants m c).trans (bigSep_fupd _ _)).trans (BI.fupd_mono (regroup m))

/-! ## What a device may collect -/

omit [FloatOps F] in
/-- What all devices owe through slot `s` for chunk `k`, device `c` may collect. -/
theorem collect_recv (s : Fin 3) (k : Fin 4) (c : Dev nD) :
    (Pipeline.launchCred (fun d => tallyAt (cell (peer d s) (.recv (s, k))) () NB) c : sProp 𝕄) ⊢ due_ c (.recv (s, k)) NB :=
  Pipeline.launchCred_tallyAt (semOf (.recv (s, k))) (fun d => peer d s) (fun d => from_ d s) (fun d => peer_from d s) (fun d => from_peer d s) () NB c

omit [FloatOps F] in
/-- What all devices owe the barriers through slot `s`: device `c` may collect one signal. -/
theorem collect_bar (s : Fin 3) (c : Dev nD) :
    (Pipeline.launchCred (fun d => tallyAt (cell (from_ d s) .bar) () 1) c : sProp 𝕄) ⊢ due_ c .bar 1 :=
  Pipeline.launchCred_tallyAt (semOf .bar) (fun d => from_ d s) (fun d => peer d s) (fun d => from_peer d s) (fun d => peer_from d s) () 1 c

omit [FloatOps F] in
/-- What all devices owe for chunk `k`: device `c` may collect three incoming copies. -/
theorem collect_chunk (O : Dev nD → CellTallies nD τ sig Unit) (k : Fin 4) (c : Dev nD) :
    (Pipeline.launchCred (fun d => due d k (O d)) c : sProp 𝕄) ⊢ iprop(Pipeline.launchCred O c ∗ tri fun s => due_ c (.recv (s, k)) NB) := by
  unfold due
  rw [Pipeline.launchCred_add (fun d => (O d + tallyAt (cell (peer d 2) (.recv (2, k))) () NB) + tallyAt (cell (peer d 1) (.recv (1, k))) () NB),
    Pipeline.launchCred_add (fun d => O d + tallyAt (cell (peer d 2) (.recv (2, k))) () NB), Pipeline.launchCred_add O]
  iintro ⟨⟨⟨H, H2⟩, H1⟩, H0⟩
  isplitl [H]; · iexact H
  isplitl [H0]; · iapply (collect_recv 0 k c) $$ H0
  isplitl [H1]; · iapply (collect_recv 1 k c) $$ H1
  iapply (collect_recv 2 k c) $$ H2

omit [FloatOps F] in
/-- Three units at the barrier, and every copy sent to the device. -/
theorem collect (c : Dev nD) : (Pipeline.launchCred O₀ c : sProp 𝕄) ⊢ claims c := by
  have hbar : iprop(due_ c .bar 1 ∗ due_ c .bar 1 ∗ due_ c .bar 1) ⊢ (due_ c .bar 3 : sProp 𝕄) := by
    unfold due_
    rw [show (tallyAt (cell c .bar) () 3 : CellTallies nD τ sig Unit) = tallyAt (cell c .bar) () 1 + (tallyAt (cell c .bar) () 1 + tallyAt (cell c .bar) () 1) from by
      rw [tallyAt_add, tallyAt_add]]
    iintro ⟨H0, H1, H2⟩
    iapply (cred_add _ _).2
    isplitl [H0]; · iexact H0
    iapply (cred_add _ _).2
    isplitl [H1] <;> iassumption
  rw [show (O₀ : Dev nD → CellTallies nD τ sig Unit) = fun d => ((O₁ d + tallyAt (cell (from_ d 1) .bar) () 1) + tallyAt (cell (from_ d 0) .bar) () 1)
      + tallyAt (cell (from_ d 2) .bar) () 1 from rfl,
    Pipeline.launchCred_add (fun d => (O₁ d + tallyAt (cell (from_ d 1) .bar) () 1) + tallyAt (cell (from_ d 0) .bar) () 1),
    Pipeline.launchCred_add (fun d => O₁ d + tallyAt (cell (from_ d 1) .bar) () 1), Pipeline.launchCred_add O₁,
    show (O₁ : Dev nD → CellTallies nD τ sig Unit) = fun d => due d 0 (due d 1 (due d 2 (due d 3 0))) from rfl]
  unfold claims
  iintro ⟨⟨⟨H, B1⟩, B0⟩, B2⟩
  isplitl [B0 B1 B2]
  · iapply hbar
    isplitl [B0]; · iapply (collect_bar 0 c) $$ B0
    isplitl [B1]; · iapply (collect_bar 1 c) $$ B1
    iapply (collect_bar 2 c) $$ B2
  ihave H' := (collect_chunk (fun d => due d 1 (due d 2 (due d 3 0))) 0 c) $$ H
  icases H' with ⟨H, C0⟩
  ihave H' := (collect_chunk (fun d => due d 2 (due d 3 0)) 1 c) $$ H
  icases H' with ⟨H, C1⟩
  ihave H' := (collect_chunk (fun d => due d 3 0) 2 c) $$ H
  icases H' with ⟨H, C2⟩
  ihave H' := (collect_chunk (fun _ => 0) 3 c) $$ H
  icases H' with ⟨-, C3⟩
  rw [bigSep_four]
  isplitl [C0]; · iexact C0
  isplitl [C1]; · iexact C1
  isplitl [C2] <;> iassumption

end Cert.Exchange

end
-- ==== Proof.Run.lean ====
/-
The run of the whole program on the four devices: every fair execution ends, with every device's argument unchanged, its
result filled, and every semaphore at zero.
-/
module

public import proofs.«01_k».proof.Proof.Deal
public import Idealize.ShloMosaic.Lib.Pipeline.Quiescent

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UU ℕ

variable (m : (ℓ : Loc nD τ sig) → Buf (Elt F) ℓ)

/-- What device `c` starts with, its scratch buffers apart; -/
def start (c : Dev nD) : sProp 𝕄 :=
  iprop((∃ K, records m K ∗ dealt c) ∗ claims c ∗ arrays m c (m ((c : Thread nD τ).loc main_v1)))
def before (c : Dev nD) : sProp 𝕄 := iprop(start m c ∗ scratch c)
/-- and what it ends with. -/
def after (c : Dev nD) : sProp 𝕄 := iprop(arrays m c (outF m c) ∗ scratch c ∗ bigSep Finset.univ fun t : Slot => semVal (cell c t) 0)

def dats (_ : Fin 1) (c : Dev nD) : Dat τ (Elt F) Unit ℕ UU ℕ cfg0 c where
  A w := m ((cfg0.win w).arr.view.loc (c : Thread nD τ))
  after w _ := absurd w.isLt (Nat.not_lt_zero _)
  Φ t := match t with
    | ⟨0, _⟩ => before m c
    | ⟨_ + 1, _⟩ => after m c
  q _ := fullShare
  owed t := match t with
    | ⟨0, _⟩ => O₀ c
    | ⟨_ + 1, _⟩ => 0

/-- A sum over no windows. -/
theorem no_windows (Φ : Fin cfg0.W → sProp 𝕄) : bigSep Finset.univ Φ = iprop(emp) := by
  rw [show (Finset.univ : Finset (Fin cfg0.W)) = ∅ from Finset.eq_empty_of_forall_notMem fun w => absurd w.isLt (Nat.not_lt_zero _), bigSep_empty]
  rfl

/-- The program of one device, from its start to its end. -/
theorem device_run (c : Dev nD) (Kt : PUnit → sProp 𝕄) :
    iprop(before m c ∗ ow c (O₀ c)) ⊢ iprop(((after m c ∗ ow c 0) -∗ Kt ⟨⟩) -∗ wpp c (bodyAt0 (F := F) t0_0) Kt) := by
  unfold before start
  iintro ⟨⟨⟨⟨%K, #HR, Hd⟩, Hc, Ha⟩, Hs⟩, HO⟩ Hk
  ihave Hb := (begin_body m c _) $$ [Hd Hc Ha Hs]
  · isplitl [Hd]; · iexact Hd
    isplitl [Hc]; · iexact Hc
    isplitl [Ha] <;> iassumption
  icases Hb with ⟨Hbar, Hch⟩
  iapply (show wpp c (bodyAt0 (F := F) t0_0) (fun v => iprop(|={Set.univ}=> Kt v)) ⊢ wpp c (bodyAt0 (F := F) t0_0) Kt from wp_fupd _ _ _ _ _)
  iapply (body_run m K c fun v => iprop(|={Set.univ}=> Kt v)) $$ [Hbar Hch HO]
  · isplitr; · iexact HR
    isplitl [Hbar]; · iexact Hbar
    isplitl [Hch] <;> iassumption
  iintro ⟨Hp, Hb, HO⟩
  ihave He := (end_body m c) $$ [Hp Hb]
  · isplitl [Hp] <;> iassumption
  icases He with ⟨Ha, Hs, Ht⟩
  imod (close_all m K c) $$ [Ht] with Hz
  · isplitr; · iexact HR
    iexact Ht
  imodintro
  iapply Hk
  isplitr [HO]
  · unfold after
    isplitl [Ha]; · iexact Ha
    isplitl [Hs] <;> iassumption
  iexact HO

/-- The kernel has one step, and that step is the run of the body. -/
theorem body_obligation (c : Dev nD) : BodyObligation (dats (F := F) m 0 c) (defs₀ (F := F)) 𝒱₀ () Set.univ := fun t => by
  rw [fin_N0 t, no_windows, no_windows]
  show iprop(before m c ∗ (dats m 0 c).owesAt () (Fin.castSucc t0_0) ∗ emp)
    ⊢ wpp c (bodyAt0 (F := F) t0_0) fun _ => iprop(after m c ∗ (dats m 0 c).owesAt () (Fin.succ t0_0) ∗ emp)
  iintro ⟨HB, HO, -⟩
  iapply (device_run m c) $$ [HB HO]
  · isplitl [HB]; · iexact HB
    unfold Dat.owesAt Pipeline.owesWithin ow
    icases HO with ⟨%W, -, HO⟩
    iexists W; iexact HO
  iintro ⟨HA, HO⟩
  isplitl [HA]; · iexact HA
  isplitl [HO]
  · unfold Dat.owesAt Pipeline.owesWithin ow
    icases HO with ⟨%W, HO⟩
    iexists W
    isplitr; · ipureintro; exact fun _ _ => Or.inl trivial
    iexact HO
  iempintro

/-! ## The launch -/

/-- The kernel's own semaphores are each listed once. -/
theorem ownSemFacts : Pipeline.OwnSemFacts cfg0.spec osem := by decide

variable (ρ : Dev nD → PrngReg)

/-- What a launch gives a device is what its body starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' arrays records
  iintro ⟨Hb, Hl, Hc, -, ⟨%K, HK, Hd⟩⟩
  ihave Hc' := (collect c) $$ Hc
  imodintro
  isplitl
  · isplitl [Hl HK Hd]
    · iexists K
      isplitl [Hl HK]
      · isplitl [HK]; · unfold chart; iexact HK
        iexact Hl
      iexact Hd
    isplitl [Hc'] <;> iassumption
  iempintro

/-- On entry the body also gets the kernel's buffers, -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before scratch
  iintro ⟨Hs, -, Hr⟩
  isplitl [Hs] <;> iassumption

/-- and on leaving it gives up the buffers and every semaphore at zero. -/
theorem leave (c : Dev nD) :
    (dats m 0 c).Φ (Fin.last cfg0.N) ⊢ iprop((arrays m c (outF m c) ∗ unscopedSems0 c) ∗ Pipeline.ownSems0 osem c ∗ Pipeline.scopedRest cfg0.spec c) := by
  rw [show (dats m 0 c).Φ (Fin.last cfg0.N) = after m c from rfl, scopedRest0_eq]
  unfold after scratch
  rw [← sems_eq]
  iintro ⟨Ha, Hr, Hu, Ho⟩
  isplitl [Ha Hu]
  · isplitl [Ha] <;> iassumption
  isplitl [Ho] <;> iassumption

/-- No window is copied in or out, so no wait has to be allowed for one. -/
theorem waits (c : Dev nD) : (levAts L lv : sProp 𝕄) ⊢ Pipeline.cellsWaits cfgs (dats m) () 0 c :=
  Pipeline.cellsWaits_intro cfgs (dats m) () 0 c fun w _ _ => absurd w.isLt (Nat.not_lt_zero _)

/-- What holds of device `c`'s memory at the end. -/
def Ends (c : Dev nD) (s : MemSt nD τ sig (Elt F)) : Prop :=
  s.mem ((c : Thread nD τ).loc main_arg0) = m ((c : Thread nD τ).loc main_arg0) ∧ s.mem ((c : Thread nD τ).loc main_v1) = outF m c

/-- The end state is read off. -/
theorem read_end (c : Dev nD) (s' : Phys nD τ sig (Elt F)) :
    iprop((arrays m c (outF m c) ∗ unscopedSems0 c) ∗ emp ∗ SI s')
      ⊢ (|={Set.univ}=> iprop(⌜Ends m c s'.mem ∧ ∀ sm : SemLoc sig, sm.isScoped .tc = false → s'.mem.sem ((c.tc : Thread nD τ), sm) = 0⌝ ∗ SI s') : sProp 𝕄) := by
  unfold arrays
  iintro ⟨⟨⟨Ha, Hv⟩, Hu⟩, -, HSI⟩
  ihave %h1 := SI_pointsTo_agree $$ [Ha HSI]
  · isplitl [HSI] <;> iassumption
  ihave %h2 := SI_pointsTo_agree $$ [Hv HSI]
  · isplitl [HSI] <;> iassumption
  ihave %h3 := (tcUnscoped_read c s') $$ [Hu HSI]
  · isplitl [Hu] <;> iassumption
  imodintro
  isplitr
  · ipureintro
    exact ⟨⟨funext fun i => h1 i (Finset.mem_univ _), funext fun i => h2 i (Finset.mem_univ _)⟩, h3⟩
  iexact HSI

set_option maxRecDepth 8000 in
/-- The run: from any memory with all semaphores at zero, every fair execution on the four devices ends, with the argument
    unchanged, the result filled and every semaphore at zero. -/
theorem run_main : θ_run defs (onTc (τ := τ) (main (F := F))) ⟨m, fun _ => 0, ρ⟩ (fun r => (∀ c, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c)) (hne := fun w => absurd w.isLt (Nat.not_lt_zero _)) (harr := arr_whole0) (hstage := stage_whole0)
    (hshare := fun c w => absurd w.isLt (Nat.not_lt_zero _))
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ _ => rfl) (hpf := fun _ k => k.elim0)
    (X := start m) (Y := fun c => iprop(arrays m c (outF m c) ∗ unscopedSems0 c)) (Z := fun _ => iprop(emp))
    (hX := start_intro m ρ) (hin := enter m) (hout := leave m)
    (QY := fun c s => Ends m c s ∧ ∀ sm : SemLoc sig, sm.isScoped .tc = false → s.sem ((c.tc : Thread nD τ), sm) = 0)
    (hY := read_end m)
    (hQ := fun _ h hs => ⟨fun c => (h c).2.2.1, sem_eq_zero hs fun c => (h c).2.2.2⟩)

end Cert.Exchange

end
-- ==== Proof.Plain.lean ====
/-
The reference: one device rounds the whole array.
-/
module

public import proofs.«01_k».proof.Proof.Gen.ReferenceIdeal
public import Idealize.ShloMosaic.Lib.StableHlo.Run
public import Idealize.ShloMosaic.Lib.Quiescent

@[expose] public section

noncomputable section

namespace Cert.Plain

open Cert.ReferenceIdeal Cert.ReferenceIdeal.Gen
open Idealize.ShloMosaic Idealize.ShloMosaic.TcCoe Idealize.ShloMosaic.StableHlo Idealize.SL.Sem

variable {F : FTy → Type} [FloatOps F]

/-- The array, rounded. -/
abbrev rounded (x : main_arg0.ty.Contents (Elt F)) : main_v0.ty.Contents (Elt F) := truncf .bf16 x bitsLt_bf16_f32

/-- The reference's one operation. -/
abbrev line : List (HloOp τ sig (Elt F)) :=
  [unary main_arg0 main_v0 ((truncf .bf16 · bitsLt_bf16_f32) : (⟨S4096x2048, .f32⟩ : BufTy).Contents (Elt F) → (⟨S4096x2048, .bf16⟩ : BufTy).Contents (Elt F))]

/-- The operation leaves the rounded argument in the result, -/
theorem line_result (V : Valuation τ sig (Elt F)) : after line V (main_v0 : DevRef τ sig) = rounded (V (main_arg0 : DevRef τ sig)) := by
  after_results

/-- and the argument as it was. -/
theorem line_arg (V : Valuation τ sig (Elt F)) : after line V (main_arg0 : DevRef τ sig) = V (main_arg0 : DevRef τ sig) := by
  after_results

/-- The reference runs; its result is the argument rounded, the argument is unchanged, and there is no semaphore to look at. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v0) = rounded (m ((c.tc : Thread nD τ).loc main_arg0))
        ∧ r.2.mem ((c.tc : Thread nD τ).loc main_arg0) = m ((c.tc : Thread nD τ).loc main_arg0)) ∧ r.2.sem = fun _ => 0 :=
  (θ_run defs _ _).mono
    (fun r h => ⟨fun c => ⟨(h c main_v0).trans (line_result _), (h c main_arg0).trans (line_arg _)⟩, sem_eq_zero_of_no_sems (by decide) r.2⟩)
    (run_seq (by decide) (by decide) defs main (fun _ => line) (fun _ => rfl) (fun _ => unary_bufs_sub ..) m ρ)

end Cert.Plain

end
-- ==== Proof.Value.lean ====
/-
The kernel's result is the reference's: device `c`'s result is block `c`, cut along the columns, of the whole array rounded,
when each device's argument is its block, cut along the rows, of the whole array.
-/
module

public import proofs.«01_k».proof.Proof.Views
public import proofs.«01_k».proof.Proof.Plain
public import Idealize.ShloMosaic.Lib.Layout

@[expose] public section

noncomputable section

namespace Cert.Exchange

open Cert.KernelIdeal Cert.KernelIdeal.Gen
open Idealize.ShloMosaic
open Idealize.ShloMosaic.TcCoe

variable {F : FTy → Type} [FloatOps F]

/-- The whole array at a row that device `d`'s block holds. -/
theorem rows_of_block (m : (ℓ : Loc nD τ sig) → Buf (Elt F) ℓ) (x : Cert.ReferenceIdeal.main_arg0.ty.Contents (Elt F))
    (h : ∀ c : Dev nD, m ((c.tc : Thread nD τ).loc main_arg0) = Layout.block ⟨2, ![1024, 2048]⟩ ⟨2, ![4096, 2048]⟩ 0 4 c x)
    (j : (⟨2, ![4096, 2048]⟩ : Shape).Idx) : xAt m ((j 0).val / 1024) ((j 0).val % 1024) (j 1).val = x j := by
  have h0 : (j 0).val < 4096 := (j 0).isLt
  have h1 : (j 1).val < 2048 := (j 1).isLt
  unfold xAt
  rw [h]
  show x (Layout.Tiles.idx _ _ _) = x j
  refine congrArg x (funext (Fin.forall_fin_two.mpr ⟨Fin.ext ?_, Fin.ext ?_⟩))
  · show (j 0).val / 1024 % 4 * 1024 + (j 0).val % 1024 % 1024 = (j 0).val
    omega
  · show (j 1).val % 2048 = (j 1).val
    omega

/-- Device `c`'s result is block `c` of the whole array rounded. -/
theorem result_block (m : (ℓ : Loc nD τ sig) → Buf (Elt F) ℓ) (x : Cert.ReferenceIdeal.main_arg0.ty.Contents (Elt F))
    (h : ∀ c : Dev nD, m ((c.tc : Thread nD τ).loc main_arg0) = Layout.block ⟨2, ![1024, 2048]⟩ ⟨2, ![4096, 2048]⟩ 0 4 c x) (c : Dev nD) :
    outF m c = Layout.block ⟨2, ![4096, 512]⟩ ⟨2, ![4096, 2048]⟩ 1 4 c (Cert.Plain.rounded x) := by
  funext i
  have e := rows_of_block m x h (Layout.Tiles.idx (S := ⟨2, ![4096, 512]⟩) (T := ⟨2, ![4096, 2048]⟩) (a := 1) (k := 4) (by decide) c i)
  show rnd (xAt m ((i 0).val / 1024) ((i 0).val % 1024) (512 * c.val + (i 1).val)) = rnd (x _)
  rw [← e]
  show _ = rnd (xAt m ((i 0).val / 1024) ((i 0).val % 1024) (c.val * 512 + (i 1).val))
  rw [Nat.mul_comm]

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel runs to its end on the four devices, its argument unchanged and every semaphore at zero. -/
theorem frame_kernel : Cert.quiescent_Kernel := fun m ρ _ =>
  (θ_run Cert.KernelIdeal.defs _ _).mono (fun _ h => ⟨fun c => (h.1 c).1, h.2⟩) (Cert.Exchange.run_main (F := Bits) m ρ)

/-- So does the kernel read with exact floats. -/
theorem frame_ideal : Cert.quiescent_KernelIdeal := fun m ρ _ =>
  (θ_run Cert.KernelIdeal.defs _ _).mono (fun _ h => ⟨fun c => (h.1 c).1, h.2⟩) (Cert.Exchange.run_main (F := Ideal) m ρ)

/-- So does the reference, on its one device. -/
theorem frame_reference : Cert.quiescent_ReferenceIdeal := fun m ρ _ =>
  (θ_run Cert.ReferenceIdeal.defs _ _).mono (fun _ h => ⟨fun c => (h.1 c).2, h.2⟩) (Cert.Plain.run_main (F := Ideal) m ρ)

/-- Each device's result is its block, cut along the columns, of the reference's result. -/
theorem algebraic : Cert.algebraic_KernelIdeal_ReferenceIdeal := fun m ρ m' ρ' _ h =>
  ⟨Cert.Plain.rounded (m' (((0 : Dev Cert.ReferenceIdeal.nD).tc : Thread Cert.ReferenceIdeal.nD Cert.ReferenceIdeal.τ).loc Cert.ReferenceIdeal.main_arg0)),
    (θ_run Cert.KernelIdeal.defs _ _).mono (fun _ hr c => ⟨(hr.1 c).2.trans (Cert.Exchange.result_block m _ h c), (hr.1 c).1⟩)
      (Cert.Exchange.run_main (F := Ideal) m ρ),
    (θ_run Cert.ReferenceIdeal.defs _ _).mono (fun _ hr => hr.1 0) (Cert.Plain.run_main (F := Ideal) m' ρ')⟩

/-- All the claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
